-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Reference [hPre_in_range : Cert.Pre_in_range.Facts] (m : (ℓ : Loc Cert.Reference.nD Cert.Reference.τ Cert.Reference.sig) → Buf (Elt Bits) ℓ) : Prop :=
  ∀ c : Dev Cert.Reference.nD,
    (Cert.Pre_in_range.fn (F := Bits) (m ((c.tc : Thread Cert.Reference.nD Cert.Reference.τ).loc Cert.Reference.main_arg0)) (m ((c.tc : Thread Cert.Reference.nD Cert.Reference.τ).loc Cert.Reference.main_arg1)) (m ((c.tc : Thread Cert.Reference.nD Cert.Reference.τ).loc Cert.Reference.main_arg2))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Reference [hReference : Cert.Reference.Facts] [hPre_in_range : Cert.Pre_in_range.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2))
      ∧ r.2.sem = fun _ => 0)

def preserves_Kernel_KernelIdeal : Prop :=
  True

def bitexact_Kernel_Reference [hKernel : Cert.Kernel.Facts] [hReference : Cert.Reference.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)
      ∧ m' ((c.tc : Thread Cert.Reference.nD Cert.Reference.τ).loc Cert.Reference.main_arg1) = m ((c.tc : Thread Cert.Kernel.nD Cert.Kernel.τ).loc Cert.Kernel.main_arg1)
      ∧ m' ((c.tc : Thread Cert.Reference.nD Cert.Reference.τ).loc Cert.Reference.main_arg2) = m ((c.tc : Thread Cert.Kernel.nD Cert.Kernel.τ).loc Cert.Kernel.main_arg2)) →
    ∃ (v0 : (c : Dev Cert.Kernel.nD) → Buf (Elt Bits) ((c.tc : Thread Cert.Kernel.nD Cert.Kernel.τ).loc Cert.Kernel.main_v3)),
      θ_run (Cert.Kernel.defs (F := Bits)) (Cert.Kernel.threads (F := Bits)) ⟨m, fun _ => 0, g⟩ (fun r => ∀ c : Dev Cert.Kernel.nD,
          r.2.mem ((c.tc : Thread Cert.Kernel.nD Cert.Kernel.τ).loc Cert.Kernel.main_v3) = v0 c
          ∧ r.2.mem ((c.tc : Thread Cert.Kernel.nD Cert.Kernel.τ).loc Cert.Kernel.main_arg0) = m ((c.tc : Thread Cert.Kernel.nD Cert.Kernel.τ).loc Cert.Kernel.main_arg0)
          ∧ r.2.mem ((c.tc : Thread Cert.Kernel.nD Cert.Kernel.τ).loc Cert.Kernel.main_arg1) = m ((c.tc : Thread Cert.Kernel.nD Cert.Kernel.τ).loc Cert.Kernel.main_arg1)
          ∧ r.2.mem ((c.tc : Thread Cert.Kernel.nD Cert.Kernel.τ).loc Cert.Kernel.main_arg2) = m ((c.tc : Thread Cert.Kernel.nD Cert.Kernel.τ).loc Cert.Kernel.main_arg2))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v3) = v0 c
          ∧ r.2.mem ((c.tc : Thread Cert.Reference.nD Cert.Reference.τ).loc Cert.Reference.main_arg0) = m' ((c.tc : Thread Cert.Reference.nD Cert.Reference.τ).loc Cert.Reference.main_arg0)
          ∧ r.2.mem ((c.tc : Thread Cert.Reference.nD Cert.Reference.τ).loc Cert.Reference.main_arg1) = m' ((c.tc : Thread Cert.Reference.nD Cert.Reference.τ).loc Cert.Reference.main_arg1)
          ∧ r.2.mem ((c.tc : Thread Cert.Reference.nD Cert.Reference.τ).loc Cert.Reference.main_arg2) = m' ((c.tc : Thread Cert.Reference.nD Cert.Reference.τ).loc Cert.Reference.main_arg2))

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hReference : Cert.Reference.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ quiescent_Reference (hReference := hReference) (hPre_in_range := hPre_in_range)
    ∧ preserves_Kernel_KernelIdeal
    ∧ bitexact_Kernel_Reference (hKernel := hKernel) (hReference := hReference) (hPre_in_range := hPre_in_range)
    ∧ algebraic_KernelIdeal_ReferenceIdeal (hKernelIdeal := hKernelIdeal) (hReferenceIdeal := hReferenceIdeal) (hPre_in_range := hPre_in_range)
-- ==== Pre_in_range.lean ====
abbrev S4x8192x1024 : Shape := ⟨3, ![4, 8192, 1024]⟩
abbrev S4x8192 : Shape := ⟨2, ![4, 8192]⟩
abbrev S4x4 : Shape := ⟨2, ![4, 4]⟩
abbrev S_ : Shape := ⟨0, ![]⟩

class Facts : Prop where
  bcast_S_S4x4 : S_.BroadcastsInDim S4x4 (![] : Fin 0 → Fin S4x4.rank)
  reducesTo_S4x4_S_d0_1 : S4x4.ReducesTo [0, 1] S_
  h_S_ : 0 < S_.numel

variable [Facts]

def fn {F : FTy → Type} [FloatOps F] (main_arg0 : FVec F S4x8192x1024 .f32) (main_arg1 : IVec S4x8192 32) (main_arg2 : IVec S4x4 32) : IVec S_ 1 :=
  let main_c : IVec S_ 32 := constantI S_ 32 0#32
  let main_v0 : IVec S4x4 32 := broadcastInDim S4x4 ![] bcast_S_S4x4 main_c
  let main_v1 : IVec S4x4 1 := cmpi .sge main_arg2 main_v0
  let main_c_0 : IVec S_ 32 := constantI S_ 32 8192#32
  let main_v2 : IVec S4x4 32 := broadcastInDim S4x4 ![] bcast_S_S4x4 main_c_0
  let main_v3 : IVec S4x4 1 := cmpi .slt main_arg2 main_v2
  let main_v4 : IVec S4x4 1 := andi main_v1 main_v3
  let main_c_1 : IVec S_ 1 := constantI S_ 1 1#1
  let main_v5 : IVec S_ 1 := (fun x v => Host.reduce IntOp.andi x v reducesTo_S4x4_S_d0_1 h_S_) main_v4 main_c_1
  main_v5
-- ==== Kernel.lean ====
abbrev S4x8192x1024 : Shape := ⟨3, ![4, 8192, 1024]⟩
abbrev S4x8192 : Shape := ⟨2, ![4, 8192]⟩
abbrev S4x4 : Shape := ⟨2, ![4, 4]⟩
abbrev S32768x1024 : Shape := ⟨2, ![32768, 1024]⟩
abbrev S16 : Shape := ⟨1, ![16]⟩
abbrev S16x1024 : Shape := ⟨2, ![16, 1024]⟩
abbrev S_ : Shape := ⟨0, ![]⟩
abbrev S1 : Shape := ⟨1, ![1]⟩
abbrev S1x1024 : Shape := ⟨2, ![1, 1024]⟩
abbrev S4x4096 : Shape := ⟨2, ![4, 4096]⟩

abbrev nBuf : Table → Nat
  | .hbm => 7
  | .local .scScalar .smem => 1
  | _ => 0

abbrev bufTy : (tb : Table) → Fin (nBuf tb) → BufTy
  | .hbm, ⟨0, _⟩ => ⟨S4x8192x1024, .f32⟩
  | .hbm, ⟨1, _⟩ => ⟨S4x8192, .i32⟩
  | .hbm, ⟨2, _⟩ => ⟨S4x4, .i32⟩
  | .hbm, ⟨3, _⟩ => ⟨S32768x1024, .f32⟩
  | .hbm, ⟨4, _⟩ => ⟨S16, .i32⟩
  | .hbm, ⟨5, _⟩ => ⟨S16x1024, .f32⟩
  | .hbm, ⟨6, _⟩ => ⟨S4x4096, .f32⟩
  | .local .scScalar .smem, ⟨0, _⟩ => ⟨S16, .i32⟩
  | _, _ => ⟨S4x8192x1024, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 2 → Bool
  | ⟨0, _⟩ => false
  | ⟨1, _⟩ => false
  | _ => false

abbrev sig : RefSig :=
  ofTables nBuf rfl bufTy 4 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v0_scs : Ref sig .scScalar := ⟨.hbm, 3, rfl⟩
abbrev main_v1_scs : Ref sig .scScalar := ⟨.hbm, 4, rfl⟩
abbrev main_v2_scs : Ref sig .scScalar := ⟨.hbm, 5, rfl⟩
abbrev cc0_scratch0 : Ref sig .scScalar := ⟨.smem, 0, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨1, ![1], ![false]⟩

def k0_off1 (v1 : BitVec 32) : Fin 2 → Nat :=
  let c0_i32_0 : BitVec 32 := 0#32
  let v2 : BitVec 32 := Scalar.addi v1 c0_i32_0
  let c0_i32_15 : BitVec 32 := 0#32
  ![v2.toNat, 0]

def k0_off2 (v4 : BitVec 32) : Fin 2 → Nat :=
  let c0_i32_1 : BitVec 32 := 0#32
  let v5 : BitVec 32 := Scalar.addi v4 c0_i32_1
  let c0_i32_18 : BitVec 32 := 0#32
  ![v5.toNat, 0]

def k0_off3 (v7 : BitVec 32) : Fin 2 → Nat :=
  let c0_i32_2 : BitVec 32 := 0#32
  let v8 : BitVec 32 := Scalar.addi v7 c0_i32_2
  let c0_i32_21 : BitVec 32 := 0#32
  ![v8.toNat, 0]

def k0_off4 (v10 : BitVec 32) : Fin 2 → Nat :=
  let c0_i32_3 : BitVec 32 := 0#32
  let v11 : BitVec 32 := Scalar.addi v10 c0_i32_3
  let c0_i32_24 : BitVec 32 := 0#32
  ![v11.toNat, 0]

def k0_off5 (v13 : BitVec 32) : Fin 2 → Nat :=
  let c8192_i32 : BitVec 32 := 8192#32
  let v14 : BitVec 32 := Scalar.addi v13 c8192_i32
  let c0_i32_27 : BitVec 32 := 0#32
  ![v14.toNat, 0]

def k0_off6 (v16 : BitVec 32) : Fin 2 → Nat :=
  let c8192_i32_4 : BitVec 32 := 8192#32
  let v17 : BitVec 32 := Scalar.addi v16 c8192_i32_4
  let c0_i32_30 : BitVec 32 := 0#32
  ![v17.toNat, 0]

def k0_off7 (v19 : BitVec 32) : Fin 2 → Nat :=
  let c8192_i32_5 : BitVec 32 := 8192#32
  let v20 : BitVec 32 := Scalar.addi v19 c8192_i32_5
  let c0_i32_33 : BitVec 32 := 0#32
  ![v20.toNat, 0]

def k0_off8 (v22 : BitVec 32) : Fin 2 → Nat :=
  let c8192_i32_6 : BitVec 32 := 8192#32
  let v23 : BitVec 32 := Scalar.addi v22 c8192_i32_6
  let c0_i32_36 : BitVec 32 := 0#32
  ![v23.toNat, 0]

def k0_off9 (v25 : BitVec 32) : Fin 2 → Nat :=
  let c16384_i32 : BitVec 32 := 16384#32
  let v26 : BitVec 32 := Scalar.addi v25 c16384_i32
  let c0_i32_39 : BitVec 32 := 0#32
  ![v26.toNat, 0]

def k0_off10 (v28 : BitVec 32) : Fin 2 → Nat :=
  let c16384_i32_7 : BitVec 32 := 16384#32
  let v29 : BitVec 32 := Scalar.addi v28 c16384_i32_7
  let c0_i32_42 : BitVec 32 := 0#32
  ![v29.toNat, 0]

def k0_off11 (v31 : BitVec 32) : Fin 2 → Nat :=
  let c16384_i32_8 : BitVec 32 := 16384#32
  let v32 : BitVec 32 := Scalar.addi v31 c16384_i32_8
  let c0_i32_45 : BitVec 32 := 0#32
  ![v32.toNat, 0]

def k0_off12 (v34 : BitVec 32) : Fin 2 → Nat :=
  let c16384_i32_9 : BitVec 32 := 16384#32
  let v35 : BitVec 32 := Scalar.addi v34 c16384_i32_9
  let c0_i32_48 : BitVec 32 := 0#32
  ![v35.toNat, 0]

def k0_off13 (v37 : BitVec 32) : Fin 2 → Nat :=
  let c24576_i32 : BitVec 32 := 24576#32
  let v38 : BitVec 32 := Scalar.addi v37 c24576_i32
  let c0_i32_51 : BitVec 32 := 0#32
  ![v38.toNat, 0]

def k0_off14 (v40 : BitVec 32) : Fin 2 → Nat :=
  let c24576_i32_10 : BitVec 32 := 24576#32
  let v41 : BitVec 32 := Scalar.addi v40 c24576_i32_10
  let c0_i32_54 : BitVec 32 := 0#32
  ![v41.toNat, 0]

def k0_off15 (v43 : BitVec 32) : Fin 2 → Nat :=
  let c24576_i32_11 : BitVec 32 := 24576#32
  let v44 : BitVec 32 := Scalar.addi v43 c24576_i32_11
  let c0_i32_57 : BitVec 32 := 0#32
  ![v44.toNat, 0]

def k0_off16 (v46 : BitVec 32) : Fin 2 → Nat :=
  let c24576_i32_12 : BitVec 32 := 24576#32
  let v47 : BitVec 32 := Scalar.addi v46 c24576_i32_12
  let c0_i32_60 : BitVec 32 := 0#32
  ![v47.toNat, 0]

def k0_chk16 (v46 : BitVec 32) : Prop :=
  (∀ a, (k0_off16 v46) a + S1x1024.size a ≤ S32768x1024.size a)
theorem k0_off16_inb : ∀ (v46 : BitVec 32) (k0_hw16 : k0_chk16 v46), ∀ a, (k0_off16 v46) a + S1x1024.size a ≤ S32768x1024.size a := fun v46 k0_hw16 => k0_hw16

def k0_off17 (v1 : BitVec 32) : Fin 2 → Nat :=
  let c0_i32_0 : BitVec 32 := 0#32
  let v2 : BitVec 32 := Scalar.addi v1 c0_i32_0
  let c0_i32_63 : BitVec 32 := 0#32
  ![v2.toNat, 0]

def k0_chk1 (v1 : BitVec 32) : Prop :=
  (∀ a, (k0_off1 v1) a + S1x1024.size a ≤ S32768x1024.size a) ∧
  (∀ a, (k0_off17 v1) a + S1x1024.size a ≤ S32768x1024.size a)
theorem k0_off1_inb : ∀ (v1 : BitVec 32) (k0_hw1 : k0_chk1 v1), ∀ a, (k0_off1 v1) a + S1x1024.size a ≤ S32768x1024.size a := fun v1 k0_hw1 => k0_hw1.1
theorem k0_off17_inb : ∀ (v1 : BitVec 32) (k0_hw1 : k0_chk1 v1), ∀ a, (k0_off17 v1) a + S1x1024.size a ≤ S32768x1024.size a := fun v1 k0_hw1 => k0_hw1.2

def k0_off18 (v4 : BitVec 32) : Fin 2 → Nat :=
  let c0_i32_1 : BitVec 32 := 0#32
  let v5 : BitVec 32 := Scalar.addi v4 c0_i32_1
  let c0_i32_66 : BitVec 32 := 0#32
  ![v5.toNat, 0]

def k0_chk2 (v4 : BitVec 32) : Prop :=
  (∀ a, (k0_off2 v4) a + S1x1024.size a ≤ S32768x1024.size a) ∧
  (∀ a, (k0_off18 v4) a + S1x1024.size a ≤ S32768x1024.size a)
theorem k0_off2_inb : ∀ (v4 : BitVec 32) (k0_hw2 : k0_chk2 v4), ∀ a, (k0_off2 v4) a + S1x1024.size a ≤ S32768x1024.size a := fun v4 k0_hw2 => k0_hw2.1
theorem k0_off18_inb : ∀ (v4 : BitVec 32) (k0_hw2 : k0_chk2 v4), ∀ a, (k0_off18 v4) a + S1x1024.size a ≤ S32768x1024.size a := fun v4 k0_hw2 => k0_hw2.2

def k0_off19 (v7 : BitVec 32) : Fin 2 → Nat :=
  let c0_i32_2 : BitVec 32 := 0#32
  let v8 : BitVec 32 := Scalar.addi v7 c0_i32_2
  let c0_i32_69 : BitVec 32 := 0#32
  ![v8.toNat, 0]

def k0_chk3 (v7 : BitVec 32) : Prop :=
  (∀ a, (k0_off3 v7) a + S1x1024.size a ≤ S32768x1024.size a) ∧
  (∀ a, (k0_off19 v7) a + S1x1024.size a ≤ S32768x1024.size a)
theorem k0_off3_inb : ∀ (v7 : BitVec 32) (k0_hw3 : k0_chk3 v7), ∀ a, (k0_off3 v7) a + S1x1024.size a ≤ S32768x1024.size a := fun v7 k0_hw3 => k0_hw3.1
theorem k0_off19_inb : ∀ (v7 : BitVec 32) (k0_hw3 : k0_chk3 v7), ∀ a, (k0_off19 v7) a + S1x1024.size a ≤ S32768x1024.size a := fun v7 k0_hw3 => k0_hw3.2

def k0_off20 (v10 : BitVec 32) : Fin 2 → Nat :=
  let c0_i32_3 : BitVec 32 := 0#32
  let v11 : BitVec 32 := Scalar.addi v10 c0_i32_3
  let c0_i32_72 : BitVec 32 := 0#32
  ![v11.toNat, 0]

def k0_chk4 (v10 : BitVec 32) : Prop :=
  (∀ a, (k0_off4 v10) a + S1x1024.size a ≤ S32768x1024.size a) ∧
  (∀ a, (k0_off20 v10) a + S1x1024.size a ≤ S32768x1024.size a)
theorem k0_off4_inb : ∀ (v10 : BitVec 32) (k0_hw4 : k0_chk4 v10), ∀ a, (k0_off4 v10) a + S1x1024.size a ≤ S32768x1024.size a := fun v10 k0_hw4 => k0_hw4.1
theorem k0_off20_inb : ∀ (v10 : BitVec 32) (k0_hw4 : k0_chk4 v10), ∀ a, (k0_off20 v10) a + S1x1024.size a ≤ S32768x1024.size a := fun v10 k0_hw4 => k0_hw4.2

def k0_off21 (v13 : BitVec 32) : Fin 2 → Nat :=
  let c8192_i32 : BitVec 32 := 8192#32
  let v14 : BitVec 32 := Scalar.addi v13 c8192_i32
  let c0_i32_75 : BitVec 32 := 0#32
  ![v14.toNat, 0]

def k0_chk5 (v13 : BitVec 32) : Prop :=
  (∀ a, (k0_off5 v13) a + S1x1024.size a ≤ S32768x1024.size a) ∧
  (∀ a, (k0_off21 v13) a + S1x1024.size a ≤ S32768x1024.size a)
theorem k0_off5_inb : ∀ (v13 : BitVec 32) (k0_hw5 : k0_chk5 v13), ∀ a, (k0_off5 v13) a + S1x1024.size a ≤ S32768x1024.size a := fun v13 k0_hw5 => k0_hw5.1
theorem k0_off21_inb : ∀ (v13 : BitVec 32) (k0_hw5 : k0_chk5 v13), ∀ a, (k0_off21 v13) a + S1x1024.size a ≤ S32768x1024.size a := fun v13 k0_hw5 => k0_hw5.2

def k0_off22 (v16 : BitVec 32) : Fin 2 → Nat :=
  let c8192_i32_4 : BitVec 32 := 8192#32
  let v17 : BitVec 32 := Scalar.addi v16 c8192_i32_4
  let c0_i32_78 : BitVec 32 := 0#32
  ![v17.toNat, 0]

def k0_chk6 (v16 : BitVec 32) : Prop :=
  (∀ a, (k0_off6 v16) a + S1x1024.size a ≤ S32768x1024.size a) ∧
  (∀ a, (k0_off22 v16) a + S1x1024.size a ≤ S32768x1024.size a)
theorem k0_off6_inb : ∀ (v16 : BitVec 32) (k0_hw6 : k0_chk6 v16), ∀ a, (k0_off6 v16) a + S1x1024.size a ≤ S32768x1024.size a := fun v16 k0_hw6 => k0_hw6.1
theorem k0_off22_inb : ∀ (v16 : BitVec 32) (k0_hw6 : k0_chk6 v16), ∀ a, (k0_off22 v16) a + S1x1024.size a ≤ S32768x1024.size a := fun v16 k0_hw6 => k0_hw6.2

def k0_off23 (v19 : BitVec 32) : Fin 2 → Nat :=
  let c8192_i32_5 : BitVec 32 := 8192#32
  let v20 : BitVec 32 := Scalar.addi v19 c8192_i32_5
  let c0_i32_81 : BitVec 32 := 0#32
  ![v20.toNat, 0]

def k0_chk7 (v19 : BitVec 32) : Prop :=
  (∀ a, (k0_off7 v19) a + S1x1024.size a ≤ S32768x1024.size a) ∧
  (∀ a, (k0_off23 v19) a + S1x1024.size a ≤ S32768x1024.size a)
theorem k0_off7_inb : ∀ (v19 : BitVec 32) (k0_hw7 : k0_chk7 v19), ∀ a, (k0_off7 v19) a + S1x1024.size a ≤ S32768x1024.size a := fun v19 k0_hw7 => k0_hw7.1
theorem k0_off23_inb : ∀ (v19 : BitVec 32) (k0_hw7 : k0_chk7 v19), ∀ a, (k0_off23 v19) a + S1x1024.size a ≤ S32768x1024.size a := fun v19 k0_hw7 => k0_hw7.2

def k0_off24 (v22 : BitVec 32) : Fin 2 → Nat :=
  let c8192_i32_6 : BitVec 32 := 8192#32
  let v23 : BitVec 32 := Scalar.addi v22 c8192_i32_6
  let c0_i32_84 : BitVec 32 := 0#32
  ![v23.toNat, 0]

def k0_chk8 (v22 : BitVec 32) : Prop :=
  (∀ a, (k0_off8 v22) a + S1x1024.size a ≤ S32768x1024.size a) ∧
  (∀ a, (k0_off24 v22) a + S1x1024.size a ≤ S32768x1024.size a)
theorem k0_off8_inb : ∀ (v22 : BitVec 32) (k0_hw8 : k0_chk8 v22), ∀ a, (k0_off8 v22) a + S1x1024.size a ≤ S32768x1024.size a := fun v22 k0_hw8 => k0_hw8.1
theorem k0_off24_inb : ∀ (v22 : BitVec 32) (k0_hw8 : k0_chk8 v22), ∀ a, (k0_off24 v22) a + S1x1024.size a ≤ S32768x1024.size a := fun v22 k0_hw8 => k0_hw8.2

def k0_off25 (v25 : BitVec 32) : Fin 2 → Nat :=
  let c16384_i32 : BitVec 32 := 16384#32
  let v26 : BitVec 32 := Scalar.addi v25 c16384_i32
  let c0_i32_87 : BitVec 32 := 0#32
  ![v26.toNat, 0]

def k0_chk9 (v25 : BitVec 32) : Prop :=
  (∀ a, (k0_off9 v25) a + S1x1024.size a ≤ S32768x1024.size a) ∧
  (∀ a, (k0_off25 v25) a + S1x1024.size a ≤ S32768x1024.size a)
theorem k0_off9_inb : ∀ (v25 : BitVec 32) (k0_hw9 : k0_chk9 v25), ∀ a, (k0_off9 v25) a + S1x1024.size a ≤ S32768x1024.size a := fun v25 k0_hw9 => k0_hw9.1
theorem k0_off25_inb : ∀ (v25 : BitVec 32) (k0_hw9 : k0_chk9 v25), ∀ a, (k0_off25 v25) a + S1x1024.size a ≤ S32768x1024.size a := fun v25 k0_hw9 => k0_hw9.2

def k0_off26 (v28 : BitVec 32) : Fin 2 → Nat :=
  let c16384_i32_7 : BitVec 32 := 16384#32
  let v29 : BitVec 32 := Scalar.addi v28 c16384_i32_7
  let c0_i32_90 : BitVec 32 := 0#32
  ![v29.toNat, 0]

def k0_chk10 (v28 : BitVec 32) : Prop :=
  (∀ a, (k0_off10 v28) a + S1x1024.size a ≤ S32768x1024.size a) ∧
  (∀ a, (k0_off26 v28) a + S1x1024.size a ≤ S32768x1024.size a)
theorem k0_off10_inb : ∀ (v28 : BitVec 32) (k0_hw10 : k0_chk10 v28), ∀ a, (k0_off10 v28) a + S1x1024.size a ≤ S32768x1024.size a := fun v28 k0_hw10 => k0_hw10.1
theorem k0_off26_inb : ∀ (v28 : BitVec 32) (k0_hw10 : k0_chk10 v28), ∀ a, (k0_off26 v28) a + S1x1024.size a ≤ S32768x1024.size a := fun v28 k0_hw10 => k0_hw10.2

def k0_off27 (v31 : BitVec 32) : Fin 2 → Nat :=
  let c16384_i32_8 : BitVec 32 := 16384#32
  let v32 : BitVec 32 := Scalar.addi v31 c16384_i32_8
  let c0_i32_93 : BitVec 32 := 0#32
  ![v32.toNat, 0]

def k0_chk11 (v31 : BitVec 32) : Prop :=
  (∀ a, (k0_off11 v31) a + S1x1024.size a ≤ S32768x1024.size a) ∧
  (∀ a, (k0_off27 v31) a + S1x1024.size a ≤ S32768x1024.size a)
theorem k0_off11_inb : ∀ (v31 : BitVec 32) (k0_hw11 : k0_chk11 v31), ∀ a, (k0_off11 v31) a + S1x1024.size a ≤ S32768x1024.size a := fun v31 k0_hw11 => k0_hw11.1
theorem k0_off27_inb : ∀ (v31 : BitVec 32) (k0_hw11 : k0_chk11 v31), ∀ a, (k0_off27 v31) a + S1x1024.size a ≤ S32768x1024.size a := fun v31 k0_hw11 => k0_hw11.2

def k0_off28 (v34 : BitVec 32) : Fin 2 → Nat :=
  let c16384_i32_9 : BitVec 32 := 16384#32
  let v35 : BitVec 32 := Scalar.addi v34 c16384_i32_9
  let c0_i32_96 : BitVec 32 := 0#32
  ![v35.toNat, 0]

def k0_chk12 (v34 : BitVec 32) : Prop :=
  (∀ a, (k0_off12 v34) a + S1x1024.size a ≤ S32768x1024.size a) ∧
  (∀ a, (k0_off28 v34) a + S1x1024.size a ≤ S32768x1024.size a)
theorem k0_off12_inb : ∀ (v34 : BitVec 32) (k0_hw12 : k0_chk12 v34), ∀ a, (k0_off12 v34) a + S1x1024.size a ≤ S32768x1024.size a := fun v34 k0_hw12 => k0_hw12.1
theorem k0_off28_inb : ∀ (v34 : BitVec 32) (k0_hw12 : k0_chk12 v34), ∀ a, (k0_off28 v34) a + S1x1024.size a ≤ S32768x1024.size a := fun v34 k0_hw12 => k0_hw12.2

def k0_off29 (v37 : BitVec 32) : Fin 2 → Nat :=
  let c24576_i32 : BitVec 32 := 24576#32
  let v38 : BitVec 32 := Scalar.addi v37 c24576_i32
  let c0_i32_99 : BitVec 32 := 0#32
  ![v38.toNat, 0]

def k0_chk13 (v37 : BitVec 32) : Prop :=
  (∀ a, (k0_off13 v37) a + S1x1024.size a ≤ S32768x1024.size a) ∧
  (∀ a, (k0_off29 v37) a + S1x1024.size a ≤ S32768x1024.size a)
theorem k0_off13_inb : ∀ (v37 : BitVec 32) (k0_hw13 : k0_chk13 v37), ∀ a, (k0_off13 v37) a + S1x1024.size a ≤ S32768x1024.size a := fun v37 k0_hw13 => k0_hw13.1
theorem k0_off29_inb : ∀ (v37 : BitVec 32) (k0_hw13 : k0_chk13 v37), ∀ a, (k0_off29 v37) a + S1x1024.size a ≤ S32768x1024.size a := fun v37 k0_hw13 => k0_hw13.2

def k0_off30 (v40 : BitVec 32) : Fin 2 → Nat :=
  let c24576_i32_10 : BitVec 32 := 24576#32
  let v41 : BitVec 32 := Scalar.addi v40 c24576_i32_10
  let c0_i32_102 : BitVec 32 := 0#32
  ![v41.toNat, 0]

def k0_chk14 (v40 : BitVec 32) : Prop :=
  (∀ a, (k0_off14 v40) a + S1x1024.size a ≤ S32768x1024.size a) ∧
  (∀ a, (k0_off30 v40) a + S1x1024.size a ≤ S32768x1024.size a)
theorem k0_off14_inb : ∀ (v40 : BitVec 32) (k0_hw14 : k0_chk14 v40), ∀ a, (k0_off14 v40) a + S1x1024.size a ≤ S32768x1024.size a := fun v40 k0_hw14 => k0_hw14.1
theorem k0_off30_inb : ∀ (v40 : BitVec 32) (k0_hw14 : k0_chk14 v40), ∀ a, (k0_off30 v40) a + S1x1024.size a ≤ S32768x1024.size a := fun v40 k0_hw14 => k0_hw14.2

def k0_off31 (v43 : BitVec 32) : Fin 2 → Nat :=
  let c24576_i32_11 : BitVec 32 := 24576#32
  let v44 : BitVec 32 := Scalar.addi v43 c24576_i32_11
  let c0_i32_105 : BitVec 32 := 0#32
  ![v44.toNat, 0]

def k0_chk15 (v43 : BitVec 32) : Prop :=
  (∀ a, (k0_off15 v43) a + S1x1024.size a ≤ S32768x1024.size a) ∧
  (∀ a, (k0_off31 v43) a + S1x1024.size a ≤ S32768x1024.size a)
theorem k0_off15_inb : ∀ (v43 : BitVec 32) (k0_hw15 : k0_chk15 v43), ∀ a, (k0_off15 v43) a + S1x1024.size a ≤ S32768x1024.size a := fun v43 k0_hw15 => k0_hw15.1
theorem k0_off31_inb : ∀ (v43 : BitVec 32) (k0_hw15 : k0_chk15 v43), ∀ a, (k0_off31 v43) a + S1x1024.size a ≤ S32768x1024.size a := fun v43 k0_hw15 => k0_hw15.2

abbrev scKind : Fin 1 → Kind := fun | 0 => .scScalar | ⟨_ + 1, h⟩ => absurd h (Nat.not_lt.2 (Nat.le_add_left _ _))
abbrev scNCore : Fin 1 → Nat := fun | 0 => 1 | ⟨_ + 1, h⟩ => absurd h (Nat.not_lt.2 (Nat.le_add_left _ _))
abbrev scNSub : Fin 1 → Nat := fun | 0 => 0 | ⟨_ + 1, h⟩ => absurd h (Nat.not_lt.2 (Nat.le_add_left _ _))
-- ==== Reference.lean ====
abbrev S4x8192x1024 : Shape := ⟨3, ![4, 8192, 1024]⟩
abbrev S4x8192 : Shape := ⟨2, ![4, 8192]⟩
abbrev S4x4 : Shape := ⟨2, ![4, 4]⟩
abbrev S4x4x1 : Shape := ⟨3, ![4, 4, 1]⟩
abbrev S4x4x1024 : Shape := ⟨3, ![4, 4, 1024]⟩
abbrev S_ : Shape := ⟨0, ![]⟩
abbrev S4x4x1024x1 : Shape := ⟨4, ![4, 4, 1024, 1]⟩
abbrev S1 : Shape := ⟨1, ![1]⟩
abbrev S1x1x1x1 : Shape := ⟨4, ![1, 1, 1, 1]⟩
abbrev S4x4096 : Shape := ⟨2, ![4, 4096]⟩

abbrev nBuf : Space → Nat
  | .hbm => 28
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192, .i32⟩
  | .hbm, ⟨2, _⟩ => ⟨S4x4, .i32⟩
  | .hbm, ⟨3, _⟩ => ⟨S4x4x1, .i32⟩
  | .hbm, ⟨4, _⟩ => ⟨S4x4x1024, .i32⟩
  | .hbm, ⟨5, _⟩ => ⟨S_, .i32⟩
  | .hbm, ⟨6, _⟩ => ⟨S4x4x1024, .i32⟩
  | .hbm, ⟨7, _⟩ => ⟨S4x4x1024, .i1⟩
  | .hbm, ⟨8, _⟩ => ⟨S_, .i32⟩
  | .hbm, ⟨9, _⟩ => ⟨S4x4x1024, .i32⟩
  | .hbm, ⟨10, _⟩ => ⟨S4x4x1024, .i32⟩
  | .hbm, ⟨11, _⟩ => ⟨S4x4x1024, .i32⟩
  | .hbm, ⟨12, _⟩ => ⟨S4x4x1024x1, .i32⟩
  | .hbm, ⟨13, _⟩ => ⟨S1, .i32⟩
  | .hbm, ⟨14, _⟩ => ⟨S_, .i32⟩
  | .hbm, ⟨15, _⟩ => ⟨S4x4x1024x1, .i32⟩
  | .hbm, ⟨16, _⟩ => ⟨S4x4x1024x1, .i1⟩
  | .hbm, ⟨17, _⟩ => ⟨S1x1x1x1, .i32⟩
  | .hbm, ⟨18, _⟩ => ⟨S4x4x1024x1, .i32⟩
  | .hbm, ⟨19, _⟩ => ⟨S4x4x1024x1, .i1⟩
  | .hbm, ⟨20, _⟩ => ⟨S4x4x1024x1, .i1⟩
  | .hbm, ⟨21, _⟩ => ⟨S_, .i1⟩
  | .hbm, ⟨22, _⟩ => ⟨S4x4x1024, .i1⟩
  | .hbm, ⟨23, _⟩ => ⟨S4x4x1024, .f32⟩
  | .hbm, ⟨24, _⟩ => ⟨S_, .f32⟩
  | .hbm, ⟨25, _⟩ => ⟨S4x4x1024, .f32⟩
  | .hbm, ⟨26, _⟩ => ⟨S4x4x1024, .f32⟩
  | .hbm, ⟨27, _⟩ => ⟨S4x4096, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_cst : Ref sig .tc := ⟨.hbm, 24, rfl⟩
abbrev main_call0_v14 : Ref sig .tc := ⟨.hbm, 25, rfl⟩
abbrev main_v2 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Setup.lean ====
/-
  The program as the launch theorem for SparseCore kernels sees it, and the names of the arrays.

  The program has one call, of a kernel that runs on one SparseCore's sequencer (a scalar-subcore mesh). Around it the
  host reshapes `x` to 32768 rows (`main_v0`), the sixteen annotation words to one list (`main_v1`), and after it the
  sixteen gathered rows to the result (`main_v2` to `main_v3`).
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.ValueIdxCore
public import Idealize.ShloMosaic.Lib.Tactic
public import proofs.«01_k».proof.Proof.Gen.KernelIdeal
public import proofs.«01_k».proof.Proof.Gen.KernelIdeal.Skeleton

@[expose] public section

noncomputable section

namespace Cert.Proof

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.Sem
open Idealize.ShloMosaic.Rounds

variable {F : FTy → Type}

/-! ## The launch -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- What the launch theorem asks of the launch's own semaphores and of the SparseCores' storage. -/
theorem launchFacts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the launch's rounds, beside the counters of the copies in flight -/

abbrev UH : Type := URounds (GSem nD τ sig) ℕ
abbrev UU : Type := UH × Counters

abbrev EH : Emb UH (MT nD τ sig (HIx 1) (Elt F) ℕ UU ℕ) := embL

/-! ## The arrays -/

abbrev argLoc (d : Dev nD) : Loc nD τ sig := (SparseCore.T d).loc main_arg0
abbrev tokLoc (d : Dev nD) : Loc nD τ sig := (SparseCore.T d).loc main_arg1
abbrev annLoc (d : Dev nD) : Loc nD τ sig := (SparseCore.T d).loc main_arg2
/-- `x` as 32768 rows, -/
abbrev xLoc (d : Dev nD) : Loc nD τ sig := (SparseCore.T d).loc main_v0
/-- the sixteen annotation words, -/
abbrev aLoc (d : Dev nD) : Loc nD τ sig := (SparseCore.T d).loc main_v1
/-- the sixteen rows the kernel writes, -/
abbrev oLoc (d : Dev nD) : Loc nD τ sig := (SparseCore.T d).loc main_v2
/-- and the result. -/
abbrev resLoc (d : Dev nD) : Loc nD τ sig := (SparseCore.T d).loc main_v3

/-! ## The kernel's operands, as the sequencer addresses them -/

abbrev xM : Memref sig .scScalar .hbm S32768x1024 .f32 := Memref.whole main_v0_scs
abbrev aM : Memref sig .scScalar .hbm S16 .i32 := Memref.whole main_v1_scs
abbrev oM : Memref sig .scScalar .hbm S16x1024 .f32 := Memref.whole main_v2_scs
abbrev sM : Memref sig .scScalar .smem S16 .i32 := Memref.whole cc0_scratch0

end Cert.Proof
-- ==== Proof.Rows.lean ====
/-
  The sixteen rows: which row of `x` each annotation word selects, and what the kernel's output holds once the sixteen
  copies have landed.
-/
module

public import proofs.«01_k».proof.Proof.Setup

@[expose] public section

noncomputable section

namespace Cert.Proof

open Cert.KernelIdeal Cert.KernelIdeal.Gen
open Idealize.ShloMosaic Idealize.ShloMosaic.ValueIdx

variable {F : FTy → Type}

/-- The list of the annotation words. -/
abbrev Words : Type := S16.Idx → BitVec 32

/-- Every annotation word names one of a batch's 8192 rows. -/
def InRange (A : Words) : Prop := ∀ j : Fin 16, (A (ix1 j)).toNat < 8192

/-- The row of the 32768 rows that word `j` selects: the word plus 8192 times its batch `j / 4`, as the kernel adds them. -/
def rowNo (A : Words) (j : Fin 16) : ℕ := (Scalar.addi (A (ix1 j)) (BitVec.ofNat 32 (8192 * (j.val / 4)))).toNat

/-- Word `j`'s row is `8192 * (j / 4) + A j`: the sum does not wrap. -/
theorem rowNo_eq {A : Words} (hA : InRange A) (j : Fin 16) : rowNo A j = (A (ix1 j)).toNat + 8192 * (j.val / 4) := by
  have h := hA j
  have hj := j.isLt
  unfold rowNo
  show (A (ix1 j) + BitVec.ofNat 32 (8192 * (j.val / 4))).toNat = _
  rw [BitVec.toNat_add, BitVec.toNat_ofNat]
  omega

/-- It is one of the 32768 rows. -/
theorem rowNo_lt {A : Words} (hA : InRange A) (j : Fin 16) : rowNo A j < 32768 := by
  rw [rowNo_eq hA]; have h := hA j; have hj := j.isLt; omega

/-- The selected row, as a row number whatever the word holds. -/
def srcRow (A : Words) (j : Fin 16) : Fin 32768 := ⟨rowNo A j % 32768, Nat.mod_lt _ (by decide)⟩

/-- Where copy `j` reads: the offsets of its row of `x`. -/
def srcOff (A : Words) (j : Fin 16) : Fin 2 → ℕ := ![rowNo A j, 0]

/-- Where copy `j` writes: the offsets of row `j` of the output. -/
def dstOff (j : Fin 16) : Fin 2 → ℕ := ![j.val, 0]

/-- Copy `j` reads inside `x`. -/
theorem srcOff_inb {A : Words} (hA : InRange A) (j : Fin 16) : ∀ a, srcOff A j a + S1x1024.size a ≤ S32768x1024.size a := by
  have h := rowNo_lt hA j
  intro a
  match a with
  | 0 => show rowNo A j + 1 ≤ 32768; omega
  | 1 => show 0 + 1024 ≤ 1024; omega

/-- Copy `j` writes inside the output. -/
theorem dstOff_inb (j : Fin 16) : ∀ a, dstOff j a + S1x1024.size a ≤ S16x1024.size a := by
  have h := j.isLt
  intro a
  match a with
  | 0 => show j.val + 1 ≤ 16; omega
  | 1 => show 0 + 1024 ≤ 1024; omega

/-- Copy `j`'s source, -/
abbrev srcM {A : Words} (hA : InRange A) (j : Fin 16) : Memref sig .scScalar .hbm S1x1024 .f32 :=
  xM.slice (Rect.unit (s := S32768x1024) (srcOff A j) S1x1024.size (srcOff_inb hA j)) (fun _ => rfl)
/-- and its target. -/
abbrev dstM (j : Fin 16) : Memref sig .scScalar .hbm S1x1024 .f32 :=
  oM.slice (Rect.unit (s := S16x1024) (dstOff j) S1x1024.size (dstOff_inb j)) (fun _ => rfl)

/-- The sixteen rows gathered: row `j` of the output is the row of `x` that word `j` selects. -/
def gathered (X : S32768x1024.Idx → Elt F .f32) (A : Words) : S16x1024.Idx → Elt F .f32 :=
  fun i => X (ix2 (srcRow A (i 0)) (i 1))

/-- The target of copy `j`, as a rectangle of the output. -/
theorem dst_set (j : Fin 16) : (dstM j).view.set = (Rect.unit (s := S16x1024) (dstOff j) S1x1024.size (dstOff_inb j)).set :=
  View.set_slice_whole _ _

/-- The target of copy `j` is row `j`. -/
theorem mem_dst {j : Fin 16} {i : S16x1024.Idx} : i ∈ (dstM j).view.set ↔ i 0 = j := by
  refine Iff.trans (show i ∈ (dstM j).view.set ↔ i ∈ (Rect.unit (s := S16x1024) (dstOff j) S1x1024.size (dstOff_inb j)).set from
    dst_set j ▸ Iff.rfl) (Rect.mem_set_unit.trans ⟨fun h => ?_, ?_⟩)
  · have h0 : j.val ≤ (i 0).val ∧ (i 0).val < j.val + 1 := h 0
    apply Fin.ext
    omega
  · rintro rfl a
    match a with
    | 0 => exact ⟨le_rfl, Nat.lt_succ_self _⟩
    | 1 => exact ⟨Nat.zero_le _, by have := (i 1).isLt; show (i 1).val < 0 + 1024; rw [Nat.zero_add]; exact this⟩

/-- Two copies write different rows, -/
theorem dst_disjoint {j k : Fin 16} (h : j ≠ k) : Disjoint (dstM j).view.set (dstM k).view.set :=
  Finset.disjoint_left.2 fun _ hj hk => h ((mem_dst.1 hj).symm.trans (mem_dst.1 hk))

/-- and between them all of the output. -/
theorem dst_cover : (Finset.univ : Finset S16x1024.Idx) = Finset.univ.biUnion fun j : Fin 16 => (dstM j).view.set := by
  ext i
  simp only [Finset.mem_univ, Finset.mem_biUnion, true_and, true_iff]
  exact ⟨i 0, mem_dst.2 rfl⟩

/-- What copy `j` leaves in its row is the gathered row. -/
theorem copy_lands {A : Words} (hA : InRange A) (j : Fin 16) (X : S32768x1024.Idx → Elt F .f32) (o : S16x1024.Idx → Elt F .f32) :
    ∀ i ∈ (dstM j).view.set, (dstM j).view.write (Elt F) o ((srcM hA j).view.read (Elt F) X) Finset.univ i = gathered X A i := by
  intro i hi
  obtain ⟨y, -, rfl⟩ := Finset.mem_map.1 hi
  have hrow : (dstM j).view.emb y 0 = j := mem_dst.1 hi
  have hy : (y 0).val = 0 := Nat.lt_one_iff.1 (y 0).isLt
  rw [View.write_emb_of_mem _ _ (Finset.mem_univ y), View.read_apply]
  show X ((srcM hA j).view.emb y) = X (ix2 (srcRow A ((dstM j).view.emb y 0)) ((dstM j).view.emb y 1))
  rw [hrow]
  congr 1
  funext a
  apply Fin.ext
  match a with
  | 0 =>
    show rowNo A j + 1 * (y 0).val = rowNo A j % 32768
    rw [hy, Nat.mod_eq_of_lt (rowNo_lt hA j)]; rfl
  | 1 => rfl

end Cert.Proof
-- ==== Proof.Copies.lean ====
/-
  One step of the kernel at a time: a word loaded from scalar memory, a row's copy started, a row's copy waited for.

  The sixteen copies all complete on one semaphore. They are started in order and then waited for, so they are held as
  one batch: `Transfers.Batch`, whose `k` counts the copies started and `u` the units waited for.
-/
module

public import proofs.«01_k».proof.Proof.Rows
public import Idealize.ShloMosaic.Lib.Batch

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The counters of the copies in flight. -/
abbrev EC : UEmb Counters (MT nD τ sig (HIx 1) (Elt F) ℕ UU ℕ) := countersEmb (U := UU)

variable (d : Dev nD) (c : Fin τ.nSC)
variable (X : Buf (Elt F) (xLoc d)) {A : Words} (hA : InRange A) (o : Buf (Elt F) (oLoc d))

/-- What one row's copy pays and one wait takes. -/
def rowUnits : ℕ := (dstM 0).view.dmaCredit

/-- Every row's copy pays the same. -/
theorem dst_units (j : Fin 16) : (dstM j).view.dmaCredit = rowUnits := rfl

/-- It pays something. -/
theorem rowUnits_pos : 0 < rowUnits :=
  show 0 < (dstM 0).view.dmaCredit from View.dmaCredit_pos _ (by decide)

/-- Row `j` of the output, at the contents `f` of the whole output. -/
abbrev rowPts (f : Buf (Elt F) (oLoc d)) (j : Fin 16) : sProp 𝕄 :=
  (dstM j).view.loc (S d c) ↦[(dstM j).view.set]{fullShare} f

/-- Copy `j`'s source row, at its share of `x`. -/
abbrev srcPts (j : Fin 16) : sProp 𝕄 :=
  (srcM hA j).view.loc (S d c) ↦[(srcM hA j).view.set]{Transfers.shareTok fullShare 16 j} X

/-- What copy `j` delivers: its row of the output holding the gathered row, and its source back. -/
def landed (j : Fin 16) : sProp 𝕄 := iprop(rowPts d c (gathered X A) j ∗ srcPts d c X hA j)

instance landed_storable (j : Fin 16) : BI.Storable (upEmb : UEmb _ 𝕄) (landed d c X hA j) := by
  unfold landed; infer_instance

/-- The copy's own words for that: its target rewritten with what it read. -/
theorem copy_delivers (j : Fin 16) :
    iprop(rowPts d c ((dstM j).view.write (Elt F) o (ReadAs.same.apply ((srcM hA j).view.read (Elt F) X)) Finset.univ) j
        ∗ srcPts d c X hA j) ⊢ landed d c X hA j := by
  unfold landed
  exact sep_mono (Entails.of_eq (pointsTo_congr (copy_lands hA j X o))) .rfl

/-- What starting copy `j` takes: its row of the output, whatever it holds, and its source. -/
abbrev ready (j : Fin 16) : sProp 𝕄 := iprop(rowPts d c o j ∗ srcPts d c X hA j)

/-- The copies' semaphore. -/
abbrev rowSem : SemLoc sig := .dma cc0_scratch1.sem

/-- The batch with `k` copies started and `u` units waited for. -/
abbrev Flying (k u : ℕ) : sProp 𝕄 :=
  Transfers.Batch EC (S d c) rowSem (none : HIx 1) rowUnits (landed d c X hA) k u

/-- With `k` copies started, none waited for: the batch, and what the other copies take. -/
def Started (k : ℕ) : sProp 𝕄 :=
  iprop(Flying d c X hA k 0 ∗ bigSep (Transfers.pending k) (ready d c X hA o))

/-- Starting copy `k`, the next. -/
theorem step_start (k : ℕ) (j : Fin 16) (hj : j.val = k) {off off' : Fin 2 → ℕ} (ho : off = srcOff A j) (ho' : off' = dstOff j)
    {inb : ∀ a, off a + S1x1024.size a ≤ S32768x1024.size a} {inb' : ∀ a, off' a + S1x1024.size a ≤ S16x1024.size a}
    {hs hd ht} {Q : PUnit → sProp 𝕄} :
    Started d c X hA o k
      ⊢ iprop((Started d c X hA o (k + 1) -∗ Q ⟨⟩) -∗ wp frame (wpE (defs₀ (F := F)) 𝒱₀ (S d c) none) Set.univ
          (Prog.lift (.enqueueDma (xM.slice (Rect.unit (s := S32768x1024) off S1x1024.size inb) (fun _ => rfl))
            (.here (oM.slice (Rect.unit (s := S16x1024) off' S1x1024.size inb') (fun _ => rfl))) rowSem hs hd ht)) Q) := by
  subst hj; subst ho; subst ho'
  unfold Started
  rw [Transfers.bigSep_pending_step (ready d c X hA o) j.val j.isLt]
  iintro ⟨HB, ⟨Ho, Hx⟩, Hrest⟩ HQ
  iapply (Transfers.wp_dmaBatch EC 𝒱₀ (S d c) none (none : HIx 1) rowUnits (show (dstM j).view.amount rowSem = rowUnits from rfl)
    (Finset.Subset.refl _) j.isLt (Nat.zero_le _) (copy_delivers d c X hA o j)) $$ [HB Ho Hx]
  · isplitl [Hx]; · iexact Hx
    isplitl [Ho]; · iexact Ho
    iexact HB
  iintro HB
  rw [wp_ret]; imodintro
  iapply HQ
  isplitl [HB]; · iexact HB
  iexact Hrest

/-- The waits recorded so far: those of `W`, and waits for copies. -/
abbrev Owing (O : CellTallies nD τ sig (HIx 1)) (W : Waits sig (HIx 1)) : sProp 𝕄 :=
  iprop(∃ W', ⌜∀ p ∈ W', p ∈ W ∨ p.2 = none⌝ ∗ owes (S d c) O W')

/-- A wait for a copy keeps the record of the waits of that form. -/
theorem recorded {W W' : Waits sig (HIx 1)} (h : ∀ p ∈ W', p ∈ W ∨ p.2 = none) (s : SemLoc sig) :
    ∀ p ∈ insert (s, (none : HIx 1)) W', p ∈ W ∨ p.2 = none := by
  intro p hp
  rcases Finset.mem_insert.1 hp with hp | hp
  · exact .inr (hp ▸ rfl)
  · exact h p hp

variable (O : CellTallies nD τ sig (HIx 1)) (W : Waits sig (HIx 1))

/-- All sixteen copies started and `k` waits done. -/
def Waited (k : ℕ) : sProp 𝕄 :=
  iprop(Transfers.MayWaits (S d c) (none : HIx 1) O ∗ Flying d c X hA 16 (rowUnits * k) ∗ Owing d c O W)

/-- A wait for one row, not the last. -/
theorem step_wait (k : ℕ) (hk : k + 1 < 16) (j : Fin 16) {off' : Fin 2 → ℕ} (ho' : off' = dstOff j)
    {inb' : ∀ a, off' a + S1x1024.size a ≤ S16x1024.size a} {src : Memref sig .scScalar .hbm S1x1024 .f32} {hs hd}
    {Q : PUnit → sProp 𝕄} :
    Waited d c X hA O W k
      ⊢ iprop((Waited d c X hA O W (k + 1) -∗ Q ⟨⟩) -∗ wp frame (wpE (defs₀ (F := F)) 𝒱₀ (S d c) none) Set.univ
          (Prog.lift (.waitDma2 cc0_scratch1.sem src (oM.slice (Rect.unit (s := S16x1024) off' S1x1024.size inb') (fun _ => rfl)) hs hd)) Q) := by
  subst ho'
  have hu : rowUnits * k + rowUnits < rowUnits * 16 := by
    have := rowUnits_pos
    rw [← Nat.mul_succ]; exact Nat.mul_lt_mul_of_pos_left hk this
  unfold Waited
  iintro ⟨#Hmw, HB, %W', %hW', HO⟩ HQ
  iapply (Transfers.wp_waitBatchO EC 𝒱₀ (S d c) none (none : HIx 1) (dst_units j) hu) $$ [HB HO]
  · isplitl [HB]; · iexact HB
    isplitl [HO]; · iexact HO
    iapply (Transfers.MayWaits.elim rowSem) $$ Hmw
  iintro ⟨HB, HO⟩
  rw [wp_ret]; imodintro
  iapply HQ
  isplitr; · iexact Hmw
  isplitl [HB]; · iexact HB
  iexists (insert (rowSem, (none : HIx 1)) W'); isplitr
  · ipureintro; exact recorded hW' rowSem
  · iexact HO

/-- The last wait: every copy has landed, and the semaphore is back at zero. -/
theorem step_last (j : Fin 16) {off' : Fin 2 → ℕ} (ho' : off' = dstOff j)
    {inb' : ∀ a, off' a + S1x1024.size a ≤ S16x1024.size a} {src : Memref sig .scScalar .hbm S1x1024 .f32} {hs hd}
    {Q : PUnit → sProp 𝕄} :
    Waited d c X hA O W 15
      ⊢ iprop((iprop(bigSep Finset.univ (landed d c X hA) ∗ semVal (S d c, rowSem) 0 ∗ Owing d c O W) -∗ Q ⟨⟩)
        -∗ wp frame (wpE (defs₀ (F := F)) 𝒱₀ (S d c) none) Set.univ
          (Prog.lift (.waitDma2 cc0_scratch1.sem src (oM.slice (Rect.unit (s := S16x1024) off' S1x1024.size inb') (fun _ => rfl)) hs hd)) Q) := by
  subst ho'
  have hu : rowUnits * 15 + rowUnits = rowUnits * 16 := (Nat.mul_succ _ _).symm
  unfold Waited
  iintro ⟨#Hmw, HB, %W', %hW', HO⟩ HQ
  iapply (Transfers.wp_waitBatchLastO EC 𝒱₀ (S d c) none (none : HIx 1) (dst_units j) rowUnits_pos hu) $$ [HB HO]
  · isplitl [HB]; · iexact HB
    isplitl [HO]; · iexact HO
    iapply (Transfers.MayWaits.elim rowSem) $$ Hmw
  iintro ⟨HD, Hs, HO⟩
  rw [wp_ret]; imodintro
  iapply HQ
  isplitl [HD]; · iexact HD
  isplitl [Hs]; · iexact Hs
  iexists (insert (rowSem, (none : HIx 1)) W'); isplitr
  · ipureintro; exact recorded hW' rowSem
  · iexact HO

/-- The words in scalar memory. -/
abbrev wordPts (f : Buf (Elt F) (sM.view.loc (S d c))) : sProp 𝕄 := sM.view.loc (S d c) ↦{fullShare} f

/-- The words in the array they come from. -/
abbrev listPts (A : Words) : sProp 𝕄 := aM.view.loc (S d c) ↦[aM.view.set]{fullShare} A

/-- The word a load at offset `j` reads is word `j`. -/
theorem word_read (A : Words) (j : Fin 16) (inb : ∀ a, (![j.val] : Fin 1 → ℕ) a + S1.size a ≤ S16.size a)
    (h1 : (Rect.unit (s := S16) ![j.val] S1.size inb).shape.numel = 1) :
    (sM.access (Rect.unit (s := S16) ![j.val] S1.size inb)).read (Elt F) A (Shape.Idx.first (h1.symm ▸ Nat.one_pos)) = A (ix1 j) := by
  rw [View.read_apply]
  refine congrArg A ?_
  funext a
  match a with
  | 0 => apply Fin.ext; show j.val + 1 * 0 = j.val; rfl

/-- Loading word `j`. -/
theorem step_load (A : Words) (j : Fin 16) {off : Fin 1 → ℕ} (ho : off = ![j.val])
    {inb : ∀ a, off a + S1.size a ≤ S16.size a} {h1 hp} {Q : Elt F .i32 → sProp 𝕄} :
    wordPts (F := F) d c A
      ⊢ iprop((wordPts (F := F) d c A -∗ Q (A (ix1 j))) -∗ wp frame (wpE (defs₀ (F := F)) 𝒱₀ (S d c) none) Set.univ
          (smemLoad sM (Rect.unit (s := S16) off S1.size inb) h1 hp) Q) := by
  subst ho
  iintro Hw HQ
  unfold smemLoad
  iapply (wp_smemLoadElt 𝒱₀ (S d c) none Set.univ (m := sM) (r := Rect.unit (s := S16) ![j.val] S1.size inb) (S := Finset.univ)
    (q := fullShare) (f := A) (Finset.subset_univ _)) $$ [Hw]
  · iexact Hw
  iintro Hw
  rw [wp_ret, word_read A j inb h1]; imodintro
  iapply HQ
  iexact Hw

/-- What the copy of the words delivers: the words in scalar memory, and the array back. -/
def fetched (A : Words) (_ : Fin 1) : sProp 𝕄 := iprop(wordPts (F := F) d c A ∗ listPts (F := F) d c A)

instance fetched_storable (A : Words) (t : Fin 1) : BI.Storable (upEmb : UEmb _ 𝕄) (fetched (F := F) d c A t) := by
  unfold fetched; infer_instance

/-- The one delivery. -/
theorem fetched_all (A : Words) :
    (bigSep Finset.univ (fetched (F := F) d c A) : sProp 𝕄) = iprop(wordPts (F := F) d c A ∗ listPts (F := F) d c A) := by
  rw [show (Finset.univ : Finset (Fin 1)) = {0} by decide, bigSep_singleton]
  rfl

/-- The words' semaphore. -/
abbrev wordSem : SemLoc sig := .dma cc0_scoped0.sem

/-- The copy of the words, a batch of one. -/
abbrev Fetching (A : Words) (k u : ℕ) : sProp 𝕄 :=
  Transfers.Batch EC (S d c) wordSem (none : HIx 1) sM.view.dmaCredit (fetched (F := F) d c A) k u

/-- What the copy leaves in scalar memory is the words. -/
theorem fetch_lands (A : Words) (f : Buf (Elt F) (sM.view.loc (S d c))) :
    sM.view.write (Elt F) f (ReadAs.same.apply (aM.view.read (Elt F) A)) Finset.univ = A := by
  refine (View.write_whole_univ _ _ _).trans ?_
  rfl

/-- What the copy delivers, in its own words. -/
theorem fetch_delivers (A : Words) (f : Buf (Elt F) (sM.view.loc (S d c))) :
    iprop(wordPts (F := F) d c (sM.view.write (Elt F) f (ReadAs.same.apply (aM.view.read (Elt F) A)) Finset.univ) ∗ listPts (F := F) d c A)
      ⊢ fetched (F := F) d c A ⟨0, Nat.one_pos⟩ := by
  unfold fetched
  rw [fetch_lands]

/-- Starting the copy of the words. -/
theorem step_fetch (A : Words) (f : Buf (Elt F) (sM.view.loc (S d c))) {hs hd ht} {Q : PUnit → sProp 𝕄} :
    iprop(listPts (F := F) d c A ∗ wordPts (F := F) d c f ∗ Fetching (F := F) d c A 0 0)
      ⊢ iprop((Fetching (F := F) d c A 1 0 -∗ Q ⟨⟩) -∗ wp frame (wpE (defs₀ (F := F)) 𝒱₀ (S d c) none) Set.univ
          (Prog.lift (.enqueueDma aM (.here sM) wordSem hs hd ht)) Q) := by
  iintro ⟨Ha, Hw, HB⟩ HQ
  iapply (Transfers.wp_dmaBatch EC 𝒱₀ (S d c) none (none : HIx 1) sM.view.dmaCredit (show sM.view.amount wordSem = sM.view.dmaCredit from rfl)
    (Finset.subset_univ _) Nat.one_pos (Nat.zero_le _) (fetch_delivers d c A f)) $$ [HB Ha Hw]
  · isplitl [Ha]; · iexact Ha
    isplitl [Hw]; · iexact Hw
    iexact HB
  iintro HB
  rw [wp_ret]; imodintro
  iapply HQ
  iexact HB

/-- Waiting for the copy of the words. -/
theorem step_fetched (A : Words) {hs hd} {Q : PUnit → sProp 𝕄} :
    iprop(Fetching (F := F) d c A 1 0 ∗ Transfers.MayWaits (S d c) (none : HIx 1) O ∗ Owing d c O W)
      ⊢ iprop((iprop(wordPts (F := F) d c A ∗ listPts (F := F) d c A ∗ semVal (S d c, wordSem) 0 ∗ Owing d c O W) -∗ Q ⟨⟩)
        -∗ wp frame (wpE (defs₀ (F := F)) 𝒱₀ (S d c) none) Set.univ (Prog.lift (.waitDma2 cc0_scoped0.sem aM sM hs hd)) Q) := by
  iintro ⟨HB, #Hmw, %W', %hW', HO⟩ HQ
  iapply (Transfers.wp_waitBatchLastO EC 𝒱₀ (S d c) none (none : HIx 1) (n := 1) (D := fetched (F := F) d c A) rfl
    (View.dmaCredit_pos _ (by decide)) (hu := (Nat.zero_add _).trans (Nat.mul_one _).symm)) $$ [HB HO]
  · isplitl [HB]; · iexact HB
    isplitl [HO]; · iexact HO
    iapply (Transfers.MayWaits.elim wordSem) $$ Hmw
  iintro ⟨HD, Hs, HO⟩
  rw [wp_ret]; imodintro
  ihave HD' := (Entails.of_eq (fetched_all (F := F) d c A)) $$ HD
  icases HD' with ⟨Hw, Ha⟩
  iapply HQ
  isplitl [Hw]; · iexact Hw
  isplitl [Ha]; · iexact Ha
  isplitl [Hs]; · iexact Hs
  iexists (insert (wordSem, (none : HIx 1)) W'); isplitr
  · ipureintro; exact recorded hW' wordSem
  · iexact HO

end Cert.Proof
-- ==== Proof.Pieces.lean ====
/-
  Cutting the arrays into what the sixteen copies take, and putting them together again; and the sequencer's own scratch
  and semaphores.

  The output is cut into its sixteen rows. Two annotation words may select the same row of `x`, so `x` is shared out to
  the sixteen copies first, and of each share the copy's row is cut out.
-/
module

public import proofs.«01_k».proof.Proof.Copies

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (c : Fin τ.nSC)
variable (X : Buf (Elt F) (xLoc d)) {A : Words} (hA : InRange A)

/-- Two assertions that entail each other are equal. -/
theorem eq_of_entails {P Q : sProp 𝕄} (h : P ⊢ Q) (h' : Q ⊢ P) : P = Q := Entails.antisymm h h'

/-- Sixteen pairs are sixteen of the one and sixteen of the other. -/
theorem pairs_eq (Φ Ψ : Fin 16 → sProp 𝕄) :
    (bigSep Finset.univ fun j => iprop(Φ j ∗ Ψ j)) = iprop(bigSep Finset.univ Φ ∗ bigSep Finset.univ Ψ) := bigSep_sep _ _ _

/-- The output whole is its sixteen rows. -/
theorem out_rows (f : Buf (Elt F) (oLoc d)) :
    (oLoc d ↦{fullShare} f : sProp 𝕄) = bigSep Finset.univ (rowPts d c f) := by
  rw [show (Finset.univ : Finset (Idx (oLoc d))) = Finset.univ.biUnion fun j : Fin 16 => (dstM j).view.set from dst_cover]
  exact pointsTo_biUnion (ℓ := oLoc d) Finset.univ (fun j : Fin 16 => (dstM j).view.set) fun j _ k _ h => dst_disjoint h

/-- What of `x` no copy takes. -/
def xKept : sProp 𝕄 :=
  iprop((xLoc d ↦{Transfers.shareDrop fullShare 16} X)
    ∗ bigSep Finset.univ fun j : Fin 16 => xLoc d ↦[Finset.univ \ (srcM hA j).view.set]{Transfers.shareTok fullShare 16 j} X)

/-- `x` whole is what the copies take, and the rest. -/
theorem x_rows : (xLoc d ↦{fullShare} X : sProp 𝕄) = iprop(xKept d X hA ∗ bigSep Finset.univ (srcPts d c X hA)) := by
  have h : (bigSep Finset.univ fun j : Fin 16 => xLoc d ↦{Transfers.shareTok fullShare 16 j} X : sProp 𝕄)
      = iprop(bigSep Finset.univ (srcPts d c X hA)
          ∗ bigSep Finset.univ fun j : Fin 16 => xLoc d ↦[Finset.univ \ (srcM hA j).view.set]{Transfers.shareTok fullShare 16 j} X) := by
    refine Eq.trans (bigSep_congr fun j _ => ?_) (pairs_eq _ _)
    have hj := pointsTo_split_subset (Ix := HIx 1) (Name := ℕ) (U := UU) (Lvl := ℕ) (ℓ := xLoc d) (q := Transfers.shareTok fullShare 16 j) (f := X)
      (Finset.subset_univ (srcM hA j).view.set)
    exact eq_of_entails hj.1 hj.2
  have ht := Transfers.pointsTo_toks (Ix := HIx 1) (Name := ℕ) (U := UU) (Lvl := ℕ) (ℓ := xLoc d) (S := Finset.univ) (f := X) fullShare 16
  unfold xKept
  rw [eq_of_entails ht.1 ht.2, h]
  apply eq_of_entails
  · iintro ⟨H1, H2, H3⟩
    isplitl [H1 H3]
    · isplitl [H1] <;> iassumption
    · iexact H2
  · iintro ⟨⟨H1, H3⟩, H2⟩
    isplitl [H1]; · iexact H1
    isplitl [H2] <;> iassumption

/-- Before the copies: both arrays are what the copies take, and the rest. -/
theorem cut (o : Buf (Elt F) (oLoc d)) :
    iprop((xLoc d ↦{fullShare} X) ∗ oLoc d ↦{fullShare} o) ⊢ iprop(xKept d X hA ∗ bigSep Finset.univ (ready d c X hA o)) := by
  rw [x_rows d c X hA, out_rows d c o, show ready d c X hA o = fun j => iprop(rowPts d c o j ∗ srcPts d c X hA j) from rfl, pairs_eq]
  iintro ⟨⟨H1, H2⟩, H3⟩
  isplitl [H1]; · iexact H1
  isplitl [H3] <;> iassumption

/-- After them: what they delivered and the rest are `x` as it was and the output gathered. -/
theorem joined :
    iprop(xKept d X hA ∗ bigSep Finset.univ (landed d c X hA)) ⊢ iprop((xLoc d ↦{fullShare} X) ∗ oLoc d ↦{fullShare} gathered X A) := by
  rw [x_rows d c X hA, out_rows d c (gathered X A),
    show landed d c X hA = fun j => iprop(rowPts d c (gathered X A) j ∗ srcPts d c X hA j) from rfl, pairs_eq]
  iintro ⟨H1, H3, H2⟩
  isplitl [H1 H2]
  · isplitl [H1] <;> iassumption
  · iexact H3

/-- The list of words as the sequencer addresses it. -/
theorem list_pts (A : Words) : (aLoc d ↦{fullShare} A : sProp 𝕄) = listPts (F := F) d c A := by
  unfold listPts
  rw [show aM.view.set = Finset.univ from View.set_whole _]

/-! ## The sequencer's scratch and semaphores -/

abbrev rowCell : GSem nD τ sig := (S d c, rowSem)
abbrev wordCell : GSem nD τ sig := (S d c, wordSem)

/-- The scratch, as a buffer of the device. -/
abbrev wordRef : DevRef τ sig := Proc.devRef (.scScalar c) cc0_scratch0

/-- What of the sequencer's storage the kernel does not touch. -/
def storeKept : sProp 𝕄 :=
  iprop(((bigSep ((ownRefs (S d c).2).erase (wordRef c)) fun b => iprop(∃ f, ((d, b) : Loc nD τ sig) ↦{fullShare} f))
      ∗ bigSep Finset.univ fun i => scopedBufs (V d c i))
    ∗ (bigSep (((ownCells (S d c)).erase (rowCell d c)).erase (wordCell d c)) fun g => semVal g 0)
    ∗ bigSep Finset.univ fun i => scopedSems0 (V d c i))

/-- The sequencer's storage: the scratch, the two semaphores at zero, and the rest. -/
theorem store_eq :
    (iprop(scopedBufs (S d c) ∗ scopedSems0 (S d c)) : sProp 𝕄)
      = iprop((∃ f, wordPts (F := F) d c f) ∗ semVal (rowCell d c) 0 ∗ semVal (wordCell d c) 0 ∗ storeKept (F := F) d c) := by
  have hb : (ownBufs (S d c) : sProp 𝕄)
      = iprop((∃ f, wordPts (F := F) d c f)
        ∗ bigSep ((ownRefs (S d c).2).erase (wordRef c)) fun b => iprop(∃ f, ((d, b) : Loc nD τ sig) ↦{fullShare} f)) := by
    unfold SparseCore.Cfg.ownBufs
    exact SparseCore.bigSep_erase' (SparseCore.Cfg.mem_ownRefs_of_owner rfl)
  have hs : (ownSems0 (S d c) : sProp 𝕄)
      = iprop(semVal (rowCell d c) 0 ∗ semVal (wordCell d c) 0
        ∗ bigSep (((ownCells (S d c)).erase (rowCell d c)).erase (wordCell d c)) fun g => semVal g 0) := by
    unfold SparseCore.Cfg.ownSems0
    rw [SparseCore.bigSep_erase' ((mem_ownCells (g := rowCell d c)).mpr ⟨rfl, by show (rowSem : SemLoc sig).isScoped .scScalar = true; decide⟩),
      SparseCore.bigSep_erase' (Finset.mem_erase.2 ⟨fun h => absurd (Prod.mk.inj h).2 (by decide),
        (mem_ownCells (g := wordCell d c)).mpr ⟨rfl, by show (wordSem : SemLoc sig).isScoped .scScalar = true; decide⟩⟩)]
  rw [(K (F := F)).scopedBufs_S launchFacts d c, SparseCore.Cfg.scopedSems0_S, hb, hs]
  unfold storeKept
  apply eq_of_entails
  · iintro ⟨⟨⟨H1, H2⟩, H3⟩, ⟨H4, H5, H6⟩, H7⟩
    isplitl [H1]; · iexact H1
    isplitl [H4]; · iexact H4
    isplitl [H5]; · iexact H5
    isplitl [H2 H3]
    · isplitl [H2] <;> iassumption
    · isplitl [H6] <;> iassumption
  · iintro ⟨H1, H4, H5, ⟨H2, H3⟩, H6, H7⟩
    isplitl [H1 H2 H3]
    · isplitl [H1 H2]
      · isplitl [H1] <;> iassumption
      · iexact H3
    · isplitl [H4 H5 H6]
      · isplitl [H4]; · iexact H4
        isplitl [H5] <;> iassumption
      · iexact H7

end Cert.Proof
-- ==== Proof.Body.lean ====
/-
  The kernel's body: the sixteen words fetched into scalar memory and loaded, the sixteen rows' copies started, then
  waited for. From `x`, the words and the output, the sequencer ends with the output holding the gathered rows.
-/
module

public import proofs.«01_k».proof.Proof.Pieces

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

/-- The sequencer's SparseCore: the grid's one axis. -/
abbrev coreOf (i : grid0.Coords) : Fin τ.nSC := (i 0).castLE hcore0

variable (d : Dev nD)

/-- An assumed side condition that holds. -/
theorem step_assume {c : Fin τ.nSC} {P : Prop} {dec : Decidable P} (h : P) {Q : PLift P → sProp 𝕄} :
    Q ⟨h⟩ ⊢ wp frame (wpE (defs₀ (F := F)) 𝒱₀ (S d c) none) Set.univ (Prog.lift (.assume P dec)) Q := by
  refine BIBase.Entails.trans ?_ (wp_assume 𝒱₀ (S d c) none Set.univ h)
  rw [wp_ret]
  exact fupd_intro

/-- What the body assumes of word `j` for copy `j` and its wait. -/
theorem rows_inb {A : Words} (hA : InRange A) (j : Fin 16) :
    (∀ a, srcOff A j a + S1x1024.size a ≤ S32768x1024.size a) ∧ ∀ a, srcOff A j a + S1x1024.size a ≤ S32768x1024.size a :=
  ⟨srcOff_inb hA j, srcOff_inb hA j⟩

/-- What the call hands the sequencer: `x`, the words, the output. -/
abbrev given (X : Buf (Elt F) (xLoc d)) (A : Words) (o : Buf (Elt F) (oLoc d)) : sProp 𝕄 :=
  iprop((xLoc d ↦{fullShare} X) ∗ (aLoc d ↦{fullShare} A) ∗ oLoc d ↦{fullShare} o)

variable (c : Fin τ.nSC) (X : Buf (Elt F) (xLoc d)) {A : Words} (hA : InRange A) (o : Buf (Elt F) (oLoc d))
variable (O : CellTallies nD τ sig (HIx 1)) (W : Waits sig (HIx 1))

/-- What the body's steps pass along untouched: the part of `x` no copy takes, and the storage the kernel does not use. -/
abbrev Aside : sProp 𝕄 := iprop(xKept d X hA ∗ storeKept (F := F) d c ∗ Transfers.MayWaits (S d c) (none : HIx 1) O)

/-- The start of the body, both batches of copies made and nothing done. -/
def Begun : sProp 𝕄 :=
  iprop(Aside d c X hA O ∗ listPts (F := F) d c A ∗ (∃ f, wordPts (F := F) d c f) ∗ Fetching (F := F) d c A 0 0 ∗ Started d c X hA o 0 ∗ Owing d c O W)

/-- What the sequencer is handed makes that start. -/
theorem begin_body (hO : ∀ g, O g none = 0) :
    iprop(levAts (K (F := F)).L (K (F := F)).lev ∗ emp ∗ given d X A o ∗ scopedBufs (S d c) ∗ scopedSems0 (S d c) ∗ owes (S d c) O W)
      ⊢ (|={Set.univ}=> Begun d c X hA o O W : sProp 𝕄) := by
  iintro ⟨#Hlv, -, ⟨Hx, Ha, Ho⟩, Hsb, Hss, HO⟩
  ihave Hstore := (Entails.of_eq (store_eq (F := F) d c)) $$ [Hsb Hss]
  · isplitl [Hsb] <;> iassumption
  icases Hstore with ⟨Hw, Hrow, Hword, Hkept⟩
  ihave #Hmw := ((K (F := F)).mayWaits_none (thr := S d c) hO) $$ Hlv
  ihave Ha' := (Entails.of_eq (list_pts (F := F) d c A)) $$ Ha
  ihave Hcut := (cut d c X hA o) $$ [Hx Ho]
  · isplitl [Hx] <;> iassumption
  icases Hcut with ⟨Hxk, Hready⟩
  imod (Transfers.batch_alloc' EC (S d c) (none : HIx 1) sM.view.dmaCredit (fetched (F := F) d c A) (sm := wordSem) (E := Set.univ)) $$ Hword with HF
  imod (Transfers.batch_alloc' EC (S d c) (none : HIx 1) rowUnits (landed d c X hA) (sm := rowSem) (E := Set.univ)) $$ Hrow with HB
  imodintro
  unfold Begun Started
  isplitl [Hxk Hkept]
  · isplitl [Hxk]; · iexact Hxk
    isplitl [Hkept]; · iexact Hkept
    iexact Hmw
  isplitl [Ha']; · iexact Ha'
  isplitl [Hw]; · iexact Hw
  isplitl [HF]; · iexact HF
  isplitl [HB Hready]
  · isplitl [HB]; · iexact HB
    rw [Transfers.pending_zero]; iexact Hready
  iexists W; isplitr
  · ipureintro; exact fun p hp => .inl hp
  · iexact HO

/-- Once every copy has been started, the waits begin. -/
theorem all_started : iprop(Transfers.MayWaits (S d c) (none : HIx 1) O ∗ Started d c X hA o 16 ∗ Owing d c O W) ⊢ Waited d c X hA O W 0 := by
  unfold Started Waited
  iintro ⟨Hmw, ⟨HB, -⟩, HO⟩
  isplitl [Hmw]; · iexact Hmw
  isplitl [HB]; · iexact HB
  iexact HO

/-- After the last wait, everything is handed back: the output gathered, the rest as it was. -/
theorem end_body :
    iprop(Aside d c X hA O ∗ listPts (F := F) d c A ∗ wordPts (F := F) d c A ∗ semVal (S d c, wordSem) 0
        ∗ bigSep Finset.univ (landed d c X hA) ∗ semVal (S d c, rowSem) 0 ∗ Owing d c O W)
      ⊢ iprop(given d X A (gathered X A) ∗ scopedBufs (S d c) ∗ scopedSems0 (S d c) ∗ Owing d c O W) := by
  iintro ⟨⟨Hxk, Hkept, -⟩, Ha, Hw, Hword, HD, Hrow, HO⟩
  ihave Hj := (joined d c X hA) $$ [Hxk HD]
  · isplitl [Hxk] <;> iassumption
  icases Hj with ⟨Hx, Ho⟩
  ihave Ha' := (Entails.of_eq (list_pts (F := F) d c A).symm) $$ Ha
  ihave Hstore := (Entails.of_eq (store_eq (F := F) d c).symm) $$ [Hw Hrow Hword Hkept]
  · isplitl [Hw]; · iexists _; iexact Hw
    isplitl [Hrow]; · iexact Hrow
    isplitl [Hword] <;> iassumption
  icases Hstore with ⟨Hsb, Hss⟩
  isplitl [Hx Ha' Ho]
  · isplitl [Hx]; · iexact Hx
    isplitl [Ha'] <;> iassumption
  isplitl [Hsb]; · iexact Hsb
  isplitl [Hss] <;> iassumption

end Cert.Proof
-- ==== Proof.KernelRun.lean ====
/-
  The kernel run on the sequencer, operation by operation, each by its lemma.
-/
module

public import proofs.«01_k».proof.Proof.Body

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig (HIx 1) (Elt F) ℕ UU ℕ

variable (d : Dev nD) (i : grid0.Coords) (X : Buf (Elt F) (xLoc d)) {A : Words} (hA : InRange A) (o : Buf (Elt F) (oLoc d))
variable (O : CellTallies nD τ sig (HIx 1)) (W : Waits sig (HIx 1))

/-- The words fetched into scalar memory, the first ten loaded. -/
theorem part1_run {Q} :
    iprop(listPts (F := F) d (coreOf i) A ∗ (∃ f, wordPts (F := F) d (coreOf i) f) ∗ Fetching (F := F) d (coreOf i) A 0 0
        ∗ Transfers.MayWaits (S d (coreOf i)) (none : HIx 1) O ∗ Owing d (coreOf i) O W)
      ⊢ iprop((iprop(wordPts (F := F) d (coreOf i) A ∗ listPts (F := F) d (coreOf i) A ∗ semVal (S d (coreOf i), wordSem) 0 ∗ Owing d (coreOf i) O W)
          -∗ Q ⟨A (ix1 0), rows_inb hA 0, A (ix1 1), rows_inb hA 1, A (ix1 2), rows_inb hA 2, A (ix1 3), rows_inb hA 3, A (ix1 4), rows_inb hA 4, A (ix1 5), rows_inb hA 5, A (ix1 6), rows_inb hA 6, A (ix1 7), rows_inb hA 7, A (ix1 8), rows_inb hA 8, A (ix1 9)⟩)
        -∗ wp frame (wpE (defs₀ (F := F)) 𝒱₀ (S d (coreOf i)) none) Set.univ
          (k0_part1 i xM (Memref.isWhole_whole _) aM (Memref.isWhole_whole _) oM (Memref.isWhole_whole _) sM (Memref.isWhole_whole _) cc0_scratch1 cc0_scoped0) Q) := by
  simp only [k0_part1_eq_skeleton, k0_part1_skel, wp_bind, wp_pure, fupd_wp_eq]
  iintro ⟨Ha, ⟨%f, Hw⟩, HF, #Hmw, HO⟩ HQ
  iapply (step_fetch d (coreOf i) A f) $$ [Ha Hw HF]
  · isplitl [Ha]; · iexact Ha
    isplitl [Hw] <;> iassumption
  iintro HF
  iapply (step_fetched d (coreOf i) O W A) $$ [HF HO]
  · isplitl [HF]; · iexact HF
    isplitr; · iexact Hmw
    iexact HO
  iintro ⟨Hw, Ha, Hword, HO⟩
  iapply (step_load d (coreOf i) A 0 rfl) $$ Hw; iintro Hw; iapply (step_assume d (rows_inb hA 0))
  iapply (step_load d (coreOf i) A 1 rfl) $$ Hw; iintro Hw; iapply (step_assume d (rows_inb hA 1))
  iapply (step_load d (coreOf i) A 2 rfl) $$ Hw; iintro Hw; iapply (step_assume d (rows_inb hA 2))
  iapply (step_load d (coreOf i) A 3 rfl) $$ Hw; iintro Hw; iapply (step_assume d (rows_inb hA 3))
  iapply (step_load d (coreOf i) A 4 rfl) $$ Hw; iintro Hw; iapply (step_assume d (rows_inb hA 4))
  iapply (step_load d (coreOf i) A 5 rfl) $$ Hw; iintro Hw; iapply (step_assume d (rows_inb hA 5))
  iapply (step_load d (coreOf i) A 6 rfl) $$ Hw; iintro Hw; iapply (step_assume d (rows_inb hA 6))
  iapply (step_load d (coreOf i) A 7 rfl) $$ Hw; iintro Hw; iapply (step_assume d (rows_inb hA 7))
  iapply (step_load d (coreOf i) A 8 rfl) $$ Hw; iintro Hw; iapply (step_assume d (rows_inb hA 8))
  iapply (step_load d (coreOf i) A 9 rfl) $$ Hw; iintro Hw
  imodintro
  iapply HQ
  isplitl [Hw]; · iexact Hw
  isplitl [Ha]; · iexact Ha
  isplitl [Hword] <;> iassumption

/-- The other words loaded, the first three copies started. -/
theorem part2_run {Q h1 h2 h3} :
    iprop(wordPts (F := F) d (coreOf i) A ∗ Started d (coreOf i) X hA o 0)
      ⊢ iprop((iprop(wordPts (F := F) d (coreOf i) A ∗ Started d (coreOf i) X hA o 3)
          -∗ Q ⟨rows_inb hA 9, A (ix1 10), rows_inb hA 10, A (ix1 11), rows_inb hA 11, A (ix1 12), rows_inb hA 12, A (ix1 13), rows_inb hA 13, A (ix1 14), rows_inb hA 14, A (ix1 15), srcOff_inb hA 15⟩)
        -∗ wp frame (wpE (defs₀ (F := F)) 𝒱₀ (S d (coreOf i)) none) Set.univ
          (k0_part2 i xM (Memref.isWhole_whole _) aM (Memref.isWhole_whole _) oM (Memref.isWhole_whole _) sM (Memref.isWhole_whole _) cc0_scratch1 cc0_scoped0
            (A (ix1 0)) h1 (A (ix1 1)) h2 (A (ix1 2)) h3 (A (ix1 9))) Q) := by
  simp only [k0_part2_eq_skeleton, k0_part2_skel, wp_bind, wp_pure, fupd_wp_eq]
  iintro ⟨Hw, HS⟩ HQ
  iapply (step_assume d (rows_inb hA 9))
  iapply (step_load d (coreOf i) A 10 rfl) $$ Hw; iintro Hw; iapply (step_assume d (rows_inb hA 10))
  iapply (step_load d (coreOf i) A 11 rfl) $$ Hw; iintro Hw; iapply (step_assume d (rows_inb hA 11))
  iapply (step_load d (coreOf i) A 12 rfl) $$ Hw; iintro Hw; iapply (step_assume d (rows_inb hA 12))
  iapply (step_load d (coreOf i) A 13 rfl) $$ Hw; iintro Hw; iapply (step_assume d (rows_inb hA 13))
  iapply (step_load d (coreOf i) A 14 rfl) $$ Hw; iintro Hw; iapply (step_assume d (rows_inb hA 14))
  iapply (step_load d (coreOf i) A 15 rfl) $$ Hw; iintro Hw; iapply (step_assume d (srcOff_inb hA 15))
  iapply (step_start d (coreOf i) X hA o 0 0 rfl (off := k0_off1 (A (ix1 0))) (off' := ![0, 0]) rfl rfl) $$ HS; iintro HS
  iapply (step_start d (coreOf i) X hA o 1 1 rfl (off := k0_off2 (A (ix1 1))) (off' := ![1, 0]) rfl rfl) $$ HS; iintro HS
  iapply (step_start d (coreOf i) X hA o 2 2 rfl (off := k0_off3 (A (ix1 2))) (off' := ![2, 0]) rfl rfl) $$ HS; iintro HS
  imodintro
  iapply HQ
  isplitl [Hw] <;> iassumption

/-- The next ten copies started. -/
theorem part3_run {Q h4 h5 h6 h7 h8 h9 h10 h11 h12 h13} :
    Started d (coreOf i) X hA o 3
      ⊢ iprop((Started d (coreOf i) X hA o 13 -∗ Q ⟨⟩)
        -∗ wp frame (wpE (defs₀ (F := F)) 𝒱₀ (S d (coreOf i)) none) Set.univ
          (k0_part3 i xM (Memref.isWhole_whole _) aM (Memref.isWhole_whole _) oM (Memref.isWhole_whole _) sM (Memref.isWhole_whole _) cc0_scratch1 cc0_scoped0
            (A (ix1 3)) h4 (A (ix1 4)) h5 (A (ix1 5)) h6 (A (ix1 6)) h7 (A (ix1 7)) h8 (A (ix1 8)) h9 (A (ix1 9)) h10 (A (ix1 10)) h11 (A (ix1 11)) h12 (A (ix1 12)) h13) Q) := by
  simp only [k0_part3_eq_skeleton, k0_part3_skel, wp_bind, wp_pure, fupd_wp_eq]
  iintro HS HQ
  iapply (step_start d (coreOf i) X hA o 3 3 rfl (off := k0_off4 (A (ix1 3))) (off' := ![3, 0]) rfl rfl) $$ HS; iintro HS
  iapply (step_start d (coreOf i) X hA o 4 4 rfl (off := k0_off5 (A (ix1 4))) (off' := ![4, 0]) rfl rfl) $$ HS; iintro HS
  iapply (step_start d (coreOf i) X hA o 5 5 rfl (off := k0_off6 (A (ix1 5))) (off' := ![5, 0]) rfl rfl) $$ HS; iintro HS
  iapply (step_start d (coreOf i) X hA o 6 6 rfl (off := k0_off7 (A (ix1 6))) (off' := ![6, 0]) rfl rfl) $$ HS; iintro HS
  iapply (step_start d (coreOf i) X hA o 7 7 rfl (off := k0_off8 (A (ix1 7))) (off' := ![7, 0]) rfl rfl) $$ HS; iintro HS
  iapply (step_start d (coreOf i) X hA o 8 8 rfl (off := k0_off9 (A (ix1 8))) (off' := ![8, 0]) rfl rfl) $$ HS; iintro HS
  iapply (step_start d (coreOf i) X hA o 9 9 rfl (off := k0_off10 (A (ix1 9))) (off' := ![9, 0]) rfl rfl) $$ HS; iintro HS
  iapply (step_start d (coreOf i) X hA o 10 10 rfl (off := k0_off11 (A (ix1 10))) (off' := ![10, 0]) rfl rfl) $$ HS; iintro HS
  iapply (step_start d (coreOf i) X hA o 11 11 rfl (off := k0_off12 (A (ix1 11))) (off' := ![11, 0]) rfl rfl) $$ HS; iintro HS
  iapply (step_start d (coreOf i) X hA o 12 12 rfl (off := k0_off13 (A (ix1 12))) (off' := ![12, 0]) rfl rfl) $$ HS; iintro HS
  imodintro
  iapply HQ
  iexact HS

/-- The last three copies started, the first seven waited for. -/
theorem part4_run {Q h1 h2 h3 h4 h5 h6 h7 h14 h15 h16} :
    iprop(Started d (coreOf i) X hA o 13 ∗ Transfers.MayWaits (S d (coreOf i)) (none : HIx 1) O ∗ Owing d (coreOf i) O W)
      ⊢ iprop((Waited d (coreOf i) X hA O W 7 -∗ Q ⟨⟩)
        -∗ wp frame (wpE (defs₀ (F := F)) 𝒱₀ (S d (coreOf i)) none) Set.univ
          (k0_part4 i xM (Memref.isWhole_whole _) aM (Memref.isWhole_whole _) oM (Memref.isWhole_whole _) sM (Memref.isWhole_whole _) cc0_scratch1 cc0_scoped0
            (A (ix1 0)) h1 (A (ix1 1)) h2 (A (ix1 2)) h3 (A (ix1 3)) h4 (A (ix1 4)) h5 (A (ix1 5)) h6 (A (ix1 6)) h7 (A (ix1 13)) h14 (A (ix1 14)) h15 (A (ix1 15)) h16) Q) := by
  simp only [k0_part4_eq_skeleton, k0_part4_skel, wp_bind, wp_pure, fupd_wp_eq]
  iintro ⟨HS, Hmw, HO⟩ HQ
  iapply (step_start d (coreOf i) X hA o 13 13 rfl (off := k0_off14 (A (ix1 13))) (off' := ![13, 0]) rfl rfl) $$ HS; iintro HS
  iapply (step_start d (coreOf i) X hA o 14 14 rfl (off := k0_off15 (A (ix1 14))) (off' := ![14, 0]) rfl rfl) $$ HS; iintro HS
  iapply (step_start d (coreOf i) X hA o 15 15 rfl (off := k0_off16 (A (ix1 15))) (off' := ![15, 0]) rfl rfl) $$ HS; iintro HS
  ihave HW := (all_started d (coreOf i) X hA o O W) $$ [HS Hmw HO]
  · isplitl [Hmw]; · iexact Hmw
    isplitl [HS] <;> iassumption
  iapply (step_wait d (coreOf i) X hA O W 0 (by decide) 0 (off' := ![0, 0]) rfl) $$ HW; iintro HW
  iapply (step_wait d (coreOf i) X hA O W 1 (by decide) 1 (off' := ![1, 0]) rfl) $$ HW; iintro HW
  iapply (step_wait d (coreOf i) X hA O W 2 (by decide) 2 (off' := ![2, 0]) rfl) $$ HW; iintro HW
  iapply (step_wait d (coreOf i) X hA O W 3 (by decide) 3 (off' := ![3, 0]) rfl) $$ HW; iintro HW
  iapply (step_wait d (coreOf i) X hA O W 4 (by decide) 4 (off' := ![4, 0]) rfl) $$ HW; iintro HW
  iapply (step_wait d (coreOf i) X hA O W 5 (by decide) 5 (off' := ![5, 0]) rfl) $$ HW; iintro HW
  iapply (step_wait d (coreOf i) X hA O W 6 (by decide) 6 (off' := ![6, 0]) rfl) $$ HW; iintro HW
  imodintro
  iapply HQ
  iexact HW

include hA in
/-- The kernel: from `x`, the words and the output, the output ends as the gathered rows and everything else as it was. -/
theorem kernel_run (hO : ∀ g, O g none = 0) :
    iprop(levAts (K (F := F)).L (K (F := F)).lev ∗ emp ∗ given d X A o
        ∗ scopedBufs (S d (coreOf i)) ∗ scopedSems0 (S d (coreOf i)) ∗ owes (S d (coreOf i)) O W)
      ⊢ wp frame (wpE (defs₀ (F := F)) 𝒱₀ (S d (coreOf i)) none) Set.univ
          (cc0_k (i) xM (Memref.isWhole_whole _) aM (Memref.isWhole_whole _) oM (Memref.isWhole_whole _) sM (Memref.isWhole_whole _)
            cc0_scratch1 cc0_scoped0)
          fun _ => iprop(given d X A (gathered X A) ∗ scopedBufs (S d (coreOf i)) ∗ scopedSems0 (S d (coreOf i)) ∗ Owing d (coreOf i) O W) := by
  refine wp_of_fupd _ _ _ (begin_body d (coreOf i) X hA o O W hO) ?_
  unfold Begun
  simp only [cc0_k_eq_skeleton, cc0_k_skel, wp_bind, wp_pure, fupd_wp_eq]
  iintro ⟨⟨Hxk, Hkept, #Hmw⟩, Ha, Hw, HF, HS, HO⟩
  iapply (part1_run d i hA O W) $$ [Ha Hw HF HO]
  · isplitl [Ha]; · iexact Ha
    isplitl [Hw]; · iexact Hw
    isplitl [HF]; · iexact HF
    isplitr; · iexact Hmw
    iexact HO
  iintro ⟨Hw, Ha, Hword, HO⟩
  iapply (part2_run d i X hA o) $$ [Hw HS]
  · isplitl [Hw] <;> iassumption
  iintro ⟨Hw, HS⟩
  iapply (part3_run d i X hA o) $$ HS
  iintro HS
  iapply (part4_run d i X hA o O W) $$ [HS HO]
  · isplitl [HS]; · iexact HS
    isplitr; · iexact Hmw
    iexact HO
  iintro HW
  iapply (step_wait d (coreOf i) X hA O W 7 (by decide) 7 (off' := ![7, 0]) rfl) $$ HW; iintro HW
  iapply (step_wait d (coreOf i) X hA O W 8 (by decide) 8 (off' := ![8, 0]) rfl) $$ HW; iintro HW
  iapply (step_wait d (coreOf i) X hA O W 9 (by decide) 9 (off' := ![9, 0]) rfl) $$ HW; iintro HW
  iapply (step_wait d (coreOf i) X hA O W 10 (by decide) 10 (off' := ![10, 0]) rfl) $$ HW; iintro HW
  iapply (step_wait d (coreOf i) X hA O W 11 (by decide) 11 (off' := ![11, 0]) rfl) $$ HW; iintro HW
  iapply (step_wait d (coreOf i) X hA O W 12 (by decide) 12 (off' := ![12, 0]) rfl) $$ HW; iintro HW
  iapply (step_wait d (coreOf i) X hA O W 13 (by decide) 13 (off' := ![13, 0]) rfl) $$ HW; iintro HW
  iapply (step_wait d (coreOf i) X hA O W 14 (by decide) 14 (off' := ![14, 0]) rfl) $$ HW; iintro HW
  iapply (step_last d (coreOf i) X hA O W 15 (off' := ![15, 0]) rfl) $$ HW
  iintro ⟨HD, Hrow, HO⟩
  imodintro
  iapply (end_body d (coreOf i) X hA O W)
  isplitl [Hxk Hkept]
  · isplitl [Hxk]; · iexact Hxk
    isplitl [Hkept]; · iexact Hkept
    iexact Hmw
  isplitl [Ha]; · iexact Ha
  isplitl [Hw]; · iexact Hw
  isplitl [Hword]; · iexact Hword
  isplitl [HD]; · iexact HD
  isplitl [Hrow] <;> iassumption

end Cert.Proof
-- ==== Proof.Launch.lean ====
/-
  The call: what it hands the sequencer and gets back, and that the sequencer's program does that.
-/
module

public import proofs.«01_k».proof.Proof.KernelRun

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem

variable {F : FTy → Type}

local notation "𝕄" => MT nD τ sig (HIx 1) (Elt F) ℕ UU ℕ

variable (m : (ℓ : Loc nD τ sig) → Buf (Elt F) ℓ)

/-! ## What the call is handed: the reshapes of the arguments -/

/-- `x` as 32768 rows. -/
def rowsOf (d : Dev nD) : Buf (Elt F) (xLoc d) :=
  shapeCast S32768x1024 (m (argLoc d) : S4x8192x1024.Idx → Elt F .f32) shapeCasts_S4x8192x1024_S32768x1024

/-- The annotation as one list of sixteen words. -/
def wordsOf (d : Dev nD) : Words :=
  shapeCast S16 (m (annLoc d) : S4x4.Idx → BitVec 32) shapeCasts_S4x4_S16

/-- The result: the sixteen gathered rows, four to a batch, as one row per batch. -/
def resultOf (d : Dev nD) : Buf (Elt F) (resLoc d) :=
  shapeCast S4x4096 (gathered (rowsOf m d) (wordsOf m d)) shapeCasts_S16x1024_S4x4096

/-- What the call hands the sequencer, and what it gets back: the same with the output gathered. Nothing is handed to
    any other thread. -/
def pay : (K (F := F)).Pay (nD := nD) (Val := Elt F) (Name := ℕ) (U := UU) where
  st := fun _ d _ => given d (rowsOf m d) (wordsOf m d) (m (oLoc d))
  dn := fun _ d _ => given d (rowsOf m d) (wordsOf m d) (gathered (rowsOf m d) (wordsOf m d))
  go := fun _ _ _ _ => iprop(emp)
  td := fun _ _ _ _ => iprop(emp)
  x := fun _ _ => iprop(emp)

instance pay_storable : (pay (F := F) m).IsStorable where
  st _ d c := by unfold pay; infer_instance
  dn _ d c := by unfold pay; infer_instance
  go _ _ _ _ := by unfold pay; infer_instance
  td _ _ _ _ := by unfold pay; infer_instance

/-- The call has one SparseCore, so what it is handed is one core's part, -/
theorem handed_eq (d : Dev nD) :
    (bigSep Finset.univ fun c : Fin ((K (F := F)).nCore 0) => (pay m).st 0 d c) = given d (rowsOf m d) (wordsOf m d) (m (oLoc d)) := by
  show (bigSep (Finset.univ : Finset (Fin 1)) fun _ => given d (rowsOf m d) (wordsOf m d) (m (oLoc d))) = _
  rw [show (Finset.univ : Finset (Fin 1)) = {0} by decide, bigSep_singleton]

/-- and so is what comes back. -/
theorem returned_eq (d : Dev nD) :
    (bigSep Finset.univ fun c : Fin ((K (F := F)).nCore 0) => (pay m).dn 0 d c)
      = given d (rowsOf m d) (wordsOf m d) (gathered (rowsOf m d) (wordsOf m d)) := by
  show (bigSep (Finset.univ : Finset (Fin 1)) fun _ => given d (rowsOf m d) (wordsOf m d) (gathered (rowsOf m d) (wordsOf m d))) = _
  rw [show (Finset.univ : Finset (Fin 1)) = {0} by decide, bigSep_singleton]

variable [FloatOps F]

/-! ## The sequencer's program -/

/-- The grid's coordinates of SparseCore `c`. -/
def coordsOf (c : Fin (grid0.bound 0)) : grid0.Coords := fun
  | 0 => c
  | ⟨_ + 1, h⟩ => absurd h (Nat.not_lt.2 (Nat.le_add_left _ _))

/-- What the sequencer runs for the call. -/
theorem scalar_eq (c : Fin τ.nSC) :
    defs₀ (F := F) (.scScalar c) 0 ()
      = SparseCore.onCore hcore0 (fun c => cc0_k (coordsOf c) xM (Memref.isWhole_whole _) aM (Memref.isWhole_whole _) oM (Memref.isWhole_whole _)
          sM (Memref.isWhole_whole _) cc0_scratch1 cc0_scoped0) ⟨⟩ c := rfl

omit [FloatOps F] in
/-- The waits recorded at the kernel's end are among those the call allows. -/
theorem owing_weaken {d : Dev nD} {c : Fin τ.nSC} {A B C : sProp 𝕄} {O : CellTallies nD τ sig (HIx 1)} {W : Waits sig (HIx 1)} {q : Fin 1} :
    iprop(A ∗ B ∗ C ∗ Owing d c O W)
      ⊢ iprop(A ∗ B ∗ C ∗ ∃ W', ⌜∀ p ∈ W', p ∈ W ∨ p.2 = none ∨ p.2 = some q⌝ ∗ owes (S d c) O W') := by
  unfold Owing
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

variable (hr : ∀ d, InRange (wordsOf m d))

include hr in
/-- The call's obligation: the sequencer's program takes what it is handed to what it returns. -/
theorem scalarObl : (K (F := F)).ScalarObl (D (F := F)) 𝒱 (pay m) v₀ 0 := by
  intro d c O W hO _ _
  -- the kernel owes nothing for a protocol of its own
  simp only [show (pay m).ox = fun _ _ => 0 from rfl, add_zero]
  change _ ⊢ wp _ _ _ (Pipeline.liftProg (defs₀ (F := F) (.scScalar ((K (F := F)).core 0 c)) 0 ())) _
  refine BIBase.Entails.trans ?_ (Pipeline.wp_liftProg (D (F := F)) (Pipeline.defs_kernel pcfgs defs₀) 𝒱₀ _ Set.univ none _ _)
  have hc : ((K (F := F)).core 0 c).val < grid0.bound 0 := c.isLt
  rw [scalar_eq]; simp only [SparseCore.onCore, hc, ↓reduceDIte]
  exact (kernel_run d (coordsOf c) (rowsOf m d) (hr d) (m (oLoc d)) O W hO).trans (wp_mono frame _ _ fun _ => owing_weaken)

end Cert.Proof

end
-- ==== Proof.Run.lean ====
/-
  The program's run: the two reshapes before the call, the call, the reshape after it. It ends with the arguments
  unchanged, the result holding `resultOf`, and every counter at zero.
-/
module

public import proofs.«01_k».proof.Proof.Launch

@[expose] public section

noncomputable section

namespace Cert.Proof

open Cert.KernelIdeal Cert.KernelIdeal.Gen
open Idealize.ShloMosaic Idealize.ShloMosaic.ValueIdx
open Idealize.ShloMosaic.SparseCore (S V T)
open Idealize.ShloMosaic.SparseCore.Cfg (HIx)
open Idealize.ShloMosaic.StableHlo
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable (m : (ℓ : Loc nD τ sig) → Buf (Elt F) ℓ) (ρ : Dev nD → PrngReg)

/-! ## The host's arrays and its three operations -/

abbrev onHost (r : Ref sig .tc) : DevRef τ sig := Proc.devRef .tc r

/-- The arrays the call works on, -/
abbrev callArrays : Finset (DevRef τ sig) := {onHost main_v0, onHost main_v1, onHost main_v2}
/-- the arguments and the result, -/
abbrev endArrays : Finset (DevRef τ sig) := {onHost main_arg0, onHost main_arg1, onHost main_arg2, onHost main_v3}
/-- and all of them. -/
abbrev arrays : Finset (DevRef τ sig) := callArrays ∪ endArrays

abbrev opRows : HloOp τ sig (Elt F) := StableHlo.reshape main_arg0 main_v0 (rfl : (.f32 : EltTy) = .f32) shapeCasts_S4x8192x1024_S32768x1024
abbrev opWords : HloOp τ sig (Elt F) := StableHlo.reshape main_arg2 main_v1 (rfl : (.i32 : EltTy) = .i32) shapeCasts_S4x4_S16
abbrev opResult : HloOp τ sig (Elt F) := StableHlo.reshape main_v2 main_v3 (rfl : (.f32 : EltTy) = .f32) shapeCasts_S16x1024_S4x4096

/-- The arrays at the launch, -/
def atLaunch (d : Dev nD) : Valuation τ sig (Elt F) := fun b => m (d, b)
/-- at the call, -/
def atCall (d : Dev nD) : Valuation τ sig (Elt F) := (opWords (F := F)).result ((opRows (F := F)).result (atLaunch m d))
/-- after it, -/
def afterCall (d : Dev nD) : Valuation τ sig (Elt F) :=
  Function.update (atCall m d) (onHost main_v2) (gathered (rowsOf m d) (wordsOf m d))
/-- and at the end. -/
def atEnd (d : Dev nD) : Valuation τ sig (Elt F) := (opResult (F := F)).result (afterCall m d)

/-- At the call an array the two reshapes do not write is as at the launch. -/
theorem atCall_other (d : Dev nD) {r : Ref sig .tc} (h0 : r ≠ main_v0) (h1 : r ≠ main_v1) : atCall m d (onHost r) = m (d, onHost r) := by
  unfold atCall
  rw [reshape_result_ne _ _ _ _ _ _ _ h1, reshape_result_ne _ _ _ _ _ _ _ h0]
  rfl

theorem atCall_rows (d : Dev nD) : atCall m d (onHost main_v0) = rowsOf m d := by
  unfold atCall
  rw [reshape_result_ne _ _ _ _ _ _ _ (show main_v0 ≠ main_v1 by decide), StableHlo.reshape_result]
  rfl

theorem atCall_words (d : Dev nD) : atCall m d (onHost main_v1) = wordsOf m d := by
  unfold atCall
  rw [StableHlo.reshape_result, reshape_result_ne _ _ _ _ _ _ _ (show main_arg2 ≠ main_v0 by decide)]
  rfl

theorem afterCall_out (d : Dev nD) : afterCall m d (onHost main_v2) = gathered (rowsOf m d) (wordsOf m d) := Function.update_self _ _ _

theorem afterCall_other (d : Dev nD) {b : DevRef τ sig} (h : b ≠ onHost main_v2) : afterCall m d b = atCall m d b := Function.update_of_ne h _ _

/-- At the end an array no operation and no kernel writes, an argument, is as at the launch, -/
theorem atEnd_arg (d : Dev nD) {r : Ref sig .tc} (h0 : r ≠ main_v0) (h1 : r ≠ main_v1) (h2 : onHost r ≠ onHost main_v2) (h3 : r ≠ main_v3) :
    atEnd m d (onHost r) = m (d, onHost r) := by
  unfold atEnd
  rw [reshape_result_ne _ _ _ _ _ _ _ h3, afterCall_other m d h2, atCall_other m d h0 h1]

/-- and the result holds the gathered rows. -/
theorem atEnd_result (d : Dev nD) : atEnd m d (onHost main_v3) = resultOf m d := by
  unfold atEnd
  rw [StableHlo.reshape_result, afterCall_out]
  rfl

/-! ## Holding the arrays -/

theorem held_call (d : Dev nD) (w : Valuation τ sig (Elt F)) :
    (held (T d) callArrays w : sProp 𝕄)
      = iprop((xLoc d ↦{fullShare} w (onHost main_v0)) ∗ (aLoc d ↦{fullShare} w (onHost main_v1)) ∗ oLoc d ↦{fullShare} w (onHost main_v2)) := by
  unfold held callArrays
  rw [SparseCore.bigSep_insert' (by decide), SparseCore.bigSep_insert' (by decide), bigSep_singleton]

theorem held_end (d : Dev nD) (w : Valuation τ sig (Elt F)) :
    (held (T d) endArrays w : sProp 𝕄)
      = iprop((argLoc d ↦{fullShare} w (onHost main_arg0)) ∗ (tokLoc d ↦{fullShare} w (onHost main_arg1))
          ∗ (annLoc d ↦{fullShare} w (onHost main_arg2)) ∗ resLoc d ↦{fullShare} w (onHost main_v3)) := by
  unfold held endArrays
  rw [SparseCore.bigSep_insert' (by decide), SparseCore.bigSep_insert' (by decide), SparseCore.bigSep_insert' (by decide), bigSep_singleton]

/-- All the arrays are the call's and the others. -/
theorem held_arrays (d : Dev nD) (w : Valuation τ sig (Elt F)) :
    (held (T d) arrays w : sProp 𝕄) = iprop(held (T d) callArrays w ∗ held (T d) endArrays w) := by
  unfold held arrays
  exact bigSep_union (by decide)

/-- What the launch gives the host: all the arrays, as at the launch. -/
theorem held_atLaunch (d : Dev nD) : (unscopedBufs d (fun b => m ((SparseCore.T d).loc b)) : sProp 𝕄) = held (T d) arrays (atLaunch m d) := by
  unfold unscopedBufs
  rw [held_arrays, held_call, held_end,
    show (Finset.univ.filter fun b : Ref sig .tc => ¬ b.isScoped) = ({main_v0, main_v1, main_v2} ∪ {main_arg0, main_arg1, main_arg2, main_v3}) by decide,
    bigSep_union (by decide)]
  simp only [SparseCore.bigSep_insert' (show main_v0 ∉ ({main_v1, main_v2} : Finset (Ref sig .tc)) by decide),
    SparseCore.bigSep_insert' (show main_v1 ∉ ({main_v2} : Finset (Ref sig .tc)) by decide),
    SparseCore.bigSep_insert' (show main_arg0 ∉ ({main_arg1, main_arg2, main_v3} : Finset (Ref sig .tc)) by decide),
    SparseCore.bigSep_insert' (show main_arg1 ∉ ({main_arg2, main_v3} : Finset (Ref sig .tc)) by decide),
    SparseCore.bigSep_insert' (show main_arg2 ∉ ({main_v3} : Finset (Ref sig .tc)) by decide), bigSep_singleton]
  rfl

/-- What the host holds of the call's arrays is what the call is handed, -/
theorem held_atCall (d : Dev nD) : (held (T d) callArrays (atCall m d) : sProp 𝕄) = given d (rowsOf m d) (wordsOf m d) (m (oLoc d)) := by
  rw [held_call, atCall_rows, atCall_words, atCall_other m d (show main_v2 ≠ main_v0 by decide) (show main_v2 ≠ main_v1 by decide)]

/-- and what comes back is what it holds after. -/
theorem held_afterCall (d : Dev nD) :
    (held (T d) callArrays (afterCall m d) : sProp 𝕄) = given d (rowsOf m d) (wordsOf m d) (gathered (rowsOf m d) (wordsOf m d)) := by
  rw [held_call, afterCall_out, afterCall_other m d (show onHost main_v0 ≠ onHost main_v2 by decide),
    afterCall_other m d (show onHost main_v1 ≠ onHost main_v2 by decide), atCall_rows, atCall_words]

/-- The call leaves the other arrays. -/
theorem held_across (d : Dev nD) : (held (T d) endArrays (atCall m d) : sProp 𝕄) = held (T d) endArrays (afterCall m d) := by
  rw [held_end, held_end, afterCall_other m d (show onHost main_arg0 ≠ onHost main_v2 by decide),
    afterCall_other m d (show onHost main_arg1 ≠ onHost main_v2 by decide), afterCall_other m d (show onHost main_arg2 ≠ onHost main_v2 by decide),
    afterCall_other m d (show onHost main_v3 ≠ onHost main_v2 by decide)]

theorem opRows_sub : (opRows (F := F)).bufs ⊆ arrays := show ({onHost main_arg0, onHost main_v0} : Finset (DevRef τ sig)) ⊆ arrays by decide
theorem opWords_sub : (opWords (F := F)).bufs ⊆ arrays := show ({onHost main_arg2, onHost main_v1} : Finset (DevRef τ sig)) ⊆ arrays by decide
theorem opResult_sub : (opResult (F := F)).bufs ⊆ arrays := show ({onHost main_v2, onHost main_v3} : Finset (DevRef τ sig)) ⊆ arrays by decide

/-- What the host ends with: the arguments as at the launch, and the result. -/
abbrev Final (d : Dev nD) : sProp 𝕄 :=
  iprop((argLoc d ↦{fullShare} m (argLoc d)) ∗ (tokLoc d ↦{fullShare} m (tokLoc d)) ∗ (annLoc d ↦{fullShare} m (annLoc d))
    ∗ resLoc d ↦{fullShare} resultOf m d)

theorem held_atEnd (d : Dev nD) : (held (T d) endArrays (atEnd m d) : sProp 𝕄) = Final m d := by
  rw [held_end, atEnd_result, atEnd_arg m d (r := main_arg0) (by decide) (by decide) (by decide) (by decide),
    atEnd_arg m d (r := main_arg1) (by decide) (by decide) (by decide) (by decide),
    atEnd_arg m d (r := main_arg2) (by decide) (by decide) (by decide) (by decide)]

/-! ## The launch's own state -/

/-- Nothing, for each of a set, is nothing. -/
theorem none_each {I : Type} (s : Finset I) : (bigSep s fun _ => iprop(emp)) = (iprop(emp) : sProp 𝕄) := bigSep_emp_const s

/-- The launch's rounds, and no counter of the copies' yet. -/
def launchState : UU := (initOf (K (F := F)).hsCells (K (F := F)).hsToks, 1)

theorem launchState_split : (ownU (launchState (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (pay m).x q thr) := by
  unfold launchState
  iintro Hu
  ihave H := (ownU_pair _ _) $$ Hu
  icases H with ⟨HH, -⟩
  imodintro
  isplitl [HH]; · iexact HH
  isplitr; · rw [none_each]; iempintro
  rw [show (bigSep Finset.univ fun thr : Thread nD τ => bigSep Finset.univ fun q : Fin 1 => (pay (F := F) m).x q thr) = iprop(emp) from by
    show (bigSep Finset.univ fun _ : Thread nD τ => bigSep Finset.univ fun _ : Fin 1 => (iprop(emp) : sProp 𝕄)) = _
    rw [bigSep_congr fun _ _ => none_each _, none_each]]
  iempintro

variable [FloatOps F]

/-! ## The host's program -/

/-- The host: two reshapes, the call, a reshape; it ends holding `Final`. -/
theorem host_run (κ : GSem nD τ sig → ℕ) (d : Dev nD) :
    iprop((K (F := F)).ctx EH (pay m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ Final m d ∗ (K (F := F)).tcEnd d) := by
  unfold SparseCore.Cfg.tcRes SparseCore.Cfg.tcEnd
  rw [held_atLaunch]
  simp only [main, wp_bind, wp_pure]
  iintro ⟨#Hctx, Hst, ⟨Hb, Hheld, Hts, -⟩, -⟩
  iapply (wp_hlo_within 𝒱 (SparseCore.T d) none Set.univ (op := opRows) (S := arrays) opRows_sub (V := atLaunch m d)) $$ [Hb Hheld]
  · isplitl [Hb] <;> iassumption
  iintro ⟨Hb, Hheld⟩
  rw [wp_ret]; imodintro
  iapply (wp_hlo_within 𝒱 (SparseCore.T d) none Set.univ (op := opWords) (S := arrays) opWords_sub
    (V := (opRows (F := F)).result (atLaunch m d))) $$ [Hb Hheld]
  · isplitl [Hb] <;> iassumption
  iintro ⟨Hb, Hheld⟩
  rw [wp_ret]; imodintro
  rw [show (opWords (F := F)).result ((opRows (F := F)).result (atLaunch m d)) = atCall m d from rfl]
  ihave Hh := (Entails.of_eq (held_arrays (F := F) d (atCall m d))) $$ Hheld
  icases Hh with ⟨Hcall, Hend⟩
  iapply ((K (F := F)).wp_run (D (F := F)) 𝒱 (EH := EH) (P := pay m) κ d 0) $$ [Hst Hcall Hb Hend Hts]
  isplitr; · iexact Hctx
  isplitl [Hst]; · iexact Hst
  isplitl [Hcall]
  · rw [handed_eq, ← held_atCall]; iexact Hcall
  iintro ⟨Hst, Hdn⟩
  ihave Hcall := (Entails.of_eq ((returned_eq m d).trans (held_afterCall m d).symm)) $$ Hdn
  ihave Hend' := (Entails.of_eq (held_across (F := F) m d)) $$ Hend
  ihave Hheld := (Entails.of_eq (held_arrays (F := F) d (afterCall m d)).symm) $$ [Hcall Hend']
  · isplitl [Hcall] <;> iassumption
  iapply (wp_hlo_within 𝒱 (SparseCore.T d) none Set.univ (op := opResult) (S := arrays) opResult_sub (V := afterCall m d)) $$ [Hb Hheld]
  · isplitl [Hb] <;> iassumption
  iintro ⟨Hb, Hheld⟩
  rw [show (opResult (F := F)).result (afterCall m d) = atEnd m d from rfl]
  ihave Hh := (Entails.of_eq (held_arrays (F := F) d (atEnd m d))) $$ Hheld
  icases Hh with ⟨-, Hend⟩
  ihave Hfin := (Entails.of_eq (held_atEnd (F := F) m d)) $$ Hend
  rw [wp_ret]; imodintro; imodintro
  isplitl [Hst]; · iexact Hst
  isplitl [Hfin]; · iexact Hfin
  isplitl [Hb] <;> iassumption

/-! ## The run -/

/-- What the run ends with on device `d`. -/
def Ended (d : Dev nD) (mem : (ℓ : Loc nD τ sig) → Buf (Elt F) ℓ) : Prop :=
  mem (argLoc d) = m (argLoc d) ∧ mem (tokLoc d) = m (tokLoc d) ∧ mem (annLoc d) = m (annLoc d) ∧ mem (resLoc d) = resultOf m d

omit [FloatOps F] in
/-- Holding an array at some contents says the memory has them. -/
theorem mem_of_held (ℓ : Loc nD τ sig) (f : Buf (Elt F) ℓ) (s : Phys nD τ sig (Elt F)) :
    iprop((ℓ ↦{fullShare} f) ∗ SI s) ⊢ (⌜s.mem.mem ℓ = f⌝ : sProp 𝕄) := by
  iintro ⟨Hx, HSI⟩
  ihave H := (SI_pointsTo_agree (st := s) (ℓ := ℓ) (I := Finset.univ) (q := fullShare) (f := f)) $$ [HSI Hx]
  · isplitl [HSI] <;> iassumption
  icases H with %hx
  ipureintro; exact funext fun i => hx i (Finset.mem_univ i)

omit [FloatOps F] in
theorem ended (d : Dev nD) (s : Phys nD τ sig (Elt F)) : iprop(Final m d ∗ SI s) ⊢ (⌜Ended m d s.mem.mem⌝ : sProp 𝕄) := by
  iintro ⟨⟨H0, H1, H2, H3⟩, HSI⟩
  ihave %h0 := (mem_of_held (argLoc d) _ s) $$ [H0 HSI]
  · isplitl [H0] <;> iassumption
  ihave %h1 := (mem_of_held (tokLoc d) _ s) $$ [H1 HSI]
  · isplitl [H1] <;> iassumption
  ihave %h2 := (mem_of_held (annLoc d) _ s) $$ [H2 HSI]
  · isplitl [H2] <;> iassumption
  ihave %h3 := (mem_of_held (resLoc d) _ s) $$ [H3 HSI]
  · isplitl [H3] <;> iassumption
  ipureintro; exact ⟨h0, h1, h2, h3⟩

/-- The program's run, for any float values: if every annotation word is in range, it ends with the arguments unchanged,
    the result holding the gathered rows, and every counter at zero. -/
theorem run_main (hr : ∀ d, InRange (wordsOf m d)) :
    θ_run (Cert.KernelIdeal.defs (F := F)) (Cert.KernelIdeal.threads (F := F)) ⟨m, fun _ => 0, ρ⟩
      fun r => (∀ d, Ended m d r.2.mem) ∧ r.2.sem = fun _ => 0 :=
  SparseCore.Cfg.θ_run_sc_quiescent (K := K (F := F)) (D := D (F := F)) (𝒱 := 𝒱) (EH := EH) (P := pay m) (A := ∅) launchFacts v₀
    (fun q _ => match q with | 0 => scalarObl m hr)
    (fun q hq => match q with | 0 => nomatch hq)
    (fun q hq => match q with | 0 => nomatch hq)
    m ρ main (fun _ => iprop(emp)) (Final m) (launchState (F := F)) (sep_elim_left.trans (launchState_split m)) (host_run m ρ)
    (fun d s => Ended m d s.mem.mem) (ended m) _ (fun _ h hz => ⟨h, hz⟩)

end Cert.Proof

end
-- ==== Proof.RefValue.lean ====
/-
  What the reference computes: element `(b, k, e)` of the rows it takes is `x` at batch `b`, row `a (b, k)`, column `e`,
  when every word of the annotation `a` is in range; the result is these with the last two axes as one.
-/
module

public import proofs.«01_k».proof.Proof.Gen.ReferenceIdeal.Run
public import Idealize.ShloMosaic.Lib.Pipeline.Value
public import Idealize.ShloMosaic.Lib.ReduceAll
public import Idealize.ShloMosaic.Lib.WordCmp
public import Idealize.ShloMosaic.Lib.ValueIdxCore

@[expose] public section

noncomputable section

namespace Cert.Proof

open Cert.ReferenceIdeal Cert.ReferenceIdeal.Gen
open Idealize.ShloMosaic Idealize.ShloMosaic.ValueIdx

variable {F : FTy → Type} [FloatOps F]

/-! ## The reference's result, in four steps -/

/-- The annotation words, each repeated along the columns. -/
def spread (a : IVec S4x4 32) : IVec S4x4x1024 32 :=
  broadcastInDim S4x4x1024 ![0, 1, 2] bcast_S4x4x1_S4x4x1024_0_1_2 (shapeCast _ a shapeCasts_S4x4_S4x4x1)

/-- The row numbers: a negative word counts from the end. -/
def rowNumbers (a : IVec S4x4 32) : IVec S4x4x1024x1 32 :=
  shapeCast _ (select (cmpi .slt (spread a) (broadcastInDim S4x4x1024 ![] bcast_S_S4x4x1024 (constantI S_ 32 0#32)))
    (addi (spread a) (broadcastInDim S4x4x1024 ![] bcast_S_S4x4x1024 (constantI S_ 32 8192#32))) (spread a)) shapeCasts_S4x4x1024_S4x4x1024x1

/-- Whether each row number names a row. -/
def named (a : IVec S4x4 32) : IVec S4x4x1024 1 :=
  Host.reduce IntOp.andi
    (andi (cmpi .sge (rowNumbers a) (broadcastInDim S4x4x1024x1 ![] bcast_S_S4x4x1024x1 (constantI S_ 32 0#32)))
      (cmpi .sle (rowNumbers a) (broadcastInDim S4x4x1024x1 ![0, 1, 2, 3] bcast_S1x1x1x1_S4x4x1024x1_0_1_2_3
        (broadcastInDim S1x1x1x1 ![3] bcast_S1_S1x1x1x1_3 (constantI S1 32 8191#32)))))
    (constantI S_ 1 1#1) reducesTo_S4x4x1024x1_S4x4x1024_d3 h_S_

/-- The rows taken: `x` at the row number where it names a row, a fixed value elsewhere. -/
def taken (x : FVec F S4x8192x1024 .f32) (a : IVec S4x4 32) : FVec F S4x4x1024 .f32 :=
  select (named a) (Host.gather gather_S4x8192x1024_S4x4x1024x1_S4x4x1024_n_1_02_02_1_3_111 x (rowNumbers a))
    (broadcastInDim S4x4x1024 ![] bcast_S_S4x4x1024 (constant S_ .f32 0x7FC00000#32))

/-- The reference's result. -/
def referenceOf (x : FVec F S4x8192x1024 .f32) (a : IVec S4x4 32) : FVec F S4x4096 .f32 :=
  shapeCast _ (taken x a) shapeCasts_S4x4x1024_S4x4096

/-! ## The steps at an index -/

variable {a : IVec S4x4 32} (ha : ∀ i, (a i).toNat < 8192)

/-- The word at `(b, k, e)` is `a (b, k)`. -/
theorem spread_at (b k : Fin 4) (e : Fin 1024) : spread a (ix3 b k e) = a (ix2 b k) := by
  unfold spread
  refine (broadcastInDim_apply _ _ _ _ (ix3 b k (0 : Fin 1)) (fun
    | 0 => rfl
    | 1 => rfl
    | 2 => rfl)).trans (shapeCast_apply _ _ _ (ix2 b k) ?_)
  rw [Shape.rowMajor_val_two, Shape.rowMajor_val_three]
  show b.val * 4 + k.val = (b.val * 4 + k.val) * 1 + 0
  omega

include ha in
/-- No word is negative, so the row number is the word. -/
theorem rowNumbers_at (b k : Fin 4) (e : Fin 1024) (z : Fin 1) : rowNumbers a (ix4 b k e z) = a (ix2 b k) := by
  unfold rowNumbers
  refine (shapeCast_apply _ _ _ (ix3 b k e) ?_).trans ?_
  · rw [Shape.rowMajor_val_three, Shape.rowMajor_val_four]
    show (b.val * 4 + k.val) * 1024 + e.val = ((b.val * 4 + k.val) * 1024 + e.val) * 1 + z.val
    omega
  show Scalar.select (IntOp.cmpi .slt (spread a (ix3 b k e)) 0#32) _ (spread a (ix3 b k e)) = _
  have h := ha (ix2 b k)
  rw [spread_at, WordCmp.cmpi_slt_zero, decide_eq_false (by omega)]
  rfl

include ha in
/-- Every row number names a row. -/
theorem named_at (j : S4x4x1024.Idx) : named a j = 1#1 := by
  unfold named
  refine Host.reduce_andi_one _ _ _ _ j rfl fun i => ?_
  show IntOp.andi (IntOp.cmpi .sge (rowNumbers a i) 0#32) (IntOp.cmpi .sle (rowNumbers a i) 8191#32) = 1#1
  rw [show rowNumbers a i = a (ix2 (i 0) (i 1)) from (congrArg (rowNumbers a) (eq_ix4 i)).trans (rowNumbers_at ha _ _ _ _)]
  have h := ha (ix2 (i 0) (i 1))
  rw [WordCmp.cmpi_sge_zero, WordCmp.cmpi_sle_of_lt (by omega) (by decide), WordCmp.andi_ofBool,
    decide_eq_true (by omega), decide_eq_true (by show _ ≤ 8191; omega)]
  rfl

include ha in
/-- Element `(b, k, e)` of the rows taken is `x` at batch `b`, row `a (b, k)`, column `e`. -/
theorem taken_at (x : FVec F S4x8192x1024 .f32) (b k : Fin 4) (e : Fin 1024) :
    taken x a (ix3 b k e) = x (ix3 b ⟨(a (ix2 b k)).toNat, ha _⟩ e) := by
  unfold taken
  rw [select_apply, named_at ha, select_one]
  unfold Host.gather
  refine congrArg x (funext fun c => Fin.ext ?_)
  show GatherDims.start _ _ (rowNumbers a) c + GatherDims.batchCoord _ _ c + GatherDims.offCoord _ _ c = _
  rw [GatherDims.offCoord_eq_zero _ _ _ (show c ∉ GatherDims.sKept _ by revert c; decide)]
  match c with
  | 0 =>
    rw [GatherDims.start_batching _ _ _ _ (by decide)]
    show 0 + b.val + 0 = b.val
    omega
  | 1 =>
    rw [GatherDims.batchCoord_eq_zero _ _ _ (by decide)]
    show min (rowNumbers a (ix4 b k e (0 : Fin 1))).toInt.toNat 8191 + 0 + 0 = (a (ix2 b k)).toNat
    have h := ha (ix2 b k)
    rw [rowNumbers_at ha, WordCmp.toInt_eq_toNat_of_lt_half (by omega), Int.toNat_natCast]
    omega
  | 2 =>
    rw [GatherDims.start_batching _ _ _ _ (by decide)]
    show 0 + e.val + 0 = e.val
    omega

end Cert.Proof

end
-- ==== Proof.Equal.lean ====
/-
  The equation: the kernel's result is the reference's, for any float values, when every annotation word is in range;
  and that the precondition says they are.
-/
module

public import proofs.«01_k».proof.Proof.Run
public import proofs.«01_k».proof.Proof.RefValue
public import proofs.«01_k».proof.Proof.Gen.Pre_in_range

@[expose] public section

noncomputable section

namespace Cert.Proof

open Cert.KernelIdeal Cert.KernelIdeal.Gen
open Idealize.ShloMosaic Idealize.ShloMosaic.ValueIdx

variable {F : FTy → Type}

/-! ## The precondition -/

/-- The precondition's value is 1 only if every annotation word, read as a natural number, is below 8192. -/
theorem words_in_range [FloatOps F] {x : FVec F Pre_in_range.S4x8192x1024 .f32} {t : IVec Pre_in_range.S4x8192 32} {a : IVec Pre_in_range.S4x4 32}
    (h : Cert.Pre_in_range.fn x t a = fun _ => 1#1) (i : Pre_in_range.S4x4.Idx) : (a i).toNat < 8192 := by
  have e := Host.reduce_andi_all _ _ _ _ ix0 (congrFun h ix0) i
  have e' : IntOp.andi (IntOp.cmpi .sge (a i) 0#32) (IntOp.cmpi .slt (a i) (BitVec.ofNat 32 8192)) = 1#1 := e
  rw [WordCmp.andi_sge_zero_slt_ofNat (by decide)] at e'
  exact (WordCmp.ofBool_decide_eq_one_iff _).mp e'

variable (m : (ℓ : Loc nD τ sig) → Buf (Elt F) ℓ)

/-- The arguments of device `d`, as arrays. -/
abbrev xOf (d : Dev nD) : S4x8192x1024.Idx → Elt F .f32 := m (argLoc d)
abbrev annOf (d : Dev nD) : S4x4.Idx → BitVec 32 := m (annLoc d)

variable {m} {d : Dev nD} (ha : ∀ i, (annOf m d i).toNat < 8192)

include ha in
/-- The list of the words is in range if the annotation is: it is the same words. -/
theorem list_in_range : InRange (wordsOf m d) := fun _ => ha _

/-! ## The two results -/

/-- Word `4 * b + k` of the list is the annotation at `(b, k)`. -/
theorem words_at (b k : Fin 4) : wordsOf m d (ix1 ⟨4 * b.val + k.val, by omega⟩) = annOf m d (ix2 b k) := by
  unfold wordsOf
  refine shapeCast_apply _ _ _ (ix2 b k) ?_
  rw [Shape.rowMajor_val_two, Shape.rowMajor_val_one]
  show b.val * 4 + k.val = 4 * b.val + k.val
  omega

include ha in
/-- Element `e` of gathered row `4 * b + k` is `x` at batch `b`, row the annotation at `(b, k)`, column `e`. -/
theorem gathered_at (b k : Fin 4) (e : Fin 1024) :
    gathered (rowsOf m d) (wordsOf m d) (ix2 ⟨4 * b.val + k.val, by omega⟩ e) = xOf m d (ix3 b ⟨(annOf m d (ix2 b k)).toNat, ha _⟩ e) := by
  have h := ha (ix2 b k)
  show rowsOf m d (ix2 (srcRow (wordsOf m d) ⟨4 * b.val + k.val, by omega⟩) e) = _
  unfold rowsOf
  refine shapeCast_apply _ _ _ (ix3 b ⟨(annOf m d (ix2 b k)).toNat, ha _⟩ e) ?_
  rw [Shape.rowMajor_val_three, Shape.rowMajor_val_two]
  show (b.val * 8192 + (annOf m d (ix2 b k)).toNat) * 1024 + e.val = (rowNo (wordsOf m d) ⟨4 * b.val + k.val, by omega⟩ % 32768) * 1024 + e.val
  rw [rowNo_eq (list_in_range ha), words_at]
  show _ = (((annOf m d (ix2 b k)).toNat + 8192 * ((4 * b.val + k.val) / 4)) % 32768) * 1024 + e.val
  omega

variable [FloatOps F]

include ha in
/-- The kernel's result is the reference's. -/
theorem result_eq : resultOf m d = referenceOf (xOf m d) (annOf m d) := by
  suffices h : ∀ i : S4x4096.Idx, resultOf m d i = referenceOf (xOf m d) (annOf m d) i from funext h
  intro i
  have hi0 : (i 0).val < 4 := (i 0).isLt
  have hi1 : (i 1).val < 4096 := (i 1).isLt
  unfold resultOf referenceOf
  -- column `c` of batch `b` is column `c % 1024` of the batch's row `c / 1024`
  refine (shapeCast_apply _ _ i (ix2 ⟨4 * (i 0).val + (i 1).val / 1024, by omega⟩ ⟨(i 1).val % 1024, by omega⟩) ?_).trans
    (((gathered_at ha ⟨(i 0).val, hi0⟩ ⟨(i 1).val / 1024, by omega⟩ ⟨(i 1).val % 1024, by omega⟩).trans (taken_at ha _ _ _ _).symm).trans
      (shapeCast_apply _ _ i (ix3 ⟨(i 0).val, hi0⟩ ⟨(i 1).val / 1024, by omega⟩ ⟨(i 1).val % 1024, by omega⟩) ?_).symm)
  · rw [Shape.rowMajor_val_two, Shape.rowMajor_val_two]
    show (4 * (i 0).val + (i 1).val / 1024) * 1024 + (i 1).val % 1024 = (i 0).val * 4096 + (i 1).val
    omega
  · rw [Shape.rowMajor_val_three, Shape.rowMajor_val_two]
    show ((i 0).val * 4 + (i 1).val / 1024) * 1024 + (i 1).val % 1024 = (i 0).val * 4096 + (i 1).val
    omega

end Cert.Proof

end
-- ==== Proof.lean ====
/-
  The claims, each from the one run of the kernel (Proof/Run.lean) and the one equation (Proof/Equal.lean), both stated
  for any float values: read at the program's floats for the frame and the bit-exact claim, at the extended reals for
  the other two.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.Reference
public import proofs.«01_k».proof.Proof.Gen.Pre_in_range
public import proofs.«01_k».proof.Proof.Gen.ReferenceIdeal.Run
public import proofs.«01_k».proof.Proof.Gen.Reference.Run
public import proofs.«01_k».proof.Proof.Run
public import proofs.«01_k».proof.Proof.Equal
public import Idealize.ShloMosaic.Adequacy
public import Idealize.ShloMosaic.Init
public import Idealize.ShloMosaic.Lib.Quiescent

@[expose] public section

noncomputable section

namespace Cert.Proof

open Idealize.ShloMosaic Idealize.SL.Sem

/-! ## The frames -/

/-- The kernel's frame: the run, its value dropped. -/
theorem frame_kernel : Cert.quiescent_Kernel := by
  intro m ρ hp
  exact (θ_run (Cert.KernelIdeal.defs (F := Bits)) _ _).mono (fun r h => ⟨fun c => ⟨(h.1 c).1, (h.1 c).2.1, (h.1 c).2.2.1⟩, h.2⟩)
    (run_main (F := Bits) m ρ fun d => list_in_range (words_in_range (hp d)))

/-- The same over the extended reals. -/
theorem frame_ideal : Cert.quiescent_KernelIdeal := by
  intro m ρ hp
  exact (θ_run (Cert.KernelIdeal.defs (F := Ideal)) _ _).mono (fun r h => ⟨fun c => ⟨(h.1 c).1, (h.1 c).2.1, (h.1 c).2.2.1⟩, h.2⟩)
    (run_main (F := Ideal) m ρ fun d => list_in_range (words_in_range (hp d)))

/-- A reference has no semaphore, so no counter can end away from zero. -/
theorem frame_reference_any : Cert.quiescent_ReferenceIdeal := by
  intro m ρ _
  exact (θ_run (Cert.ReferenceIdeal.defs (F := Ideal)) _ _).mono (fun r h => ⟨fun c => (h c).2, sem_eq_zero_of_no_sems (by decide) r.2⟩)
    (Cert.ReferenceIdeal.Value.run (F := Ideal) m ρ)

theorem frame_reference_ideal : Cert.quiescent_ReferenceIdeal_pre_in_range :=
  fun m ρ _ => frame_reference_any m ρ trivial

theorem frame_reference : Cert.quiescent_Reference := by
  intro m ρ _
  exact (θ_run (Cert.Reference.defs (F := Bits)) _ _).mono (fun r h => ⟨fun c => (h c).2, sem_eq_zero_of_no_sems (by decide) r.2⟩)
    (Cert.Reference.Value.run (F := Bits) m ρ)

/-! ## The values -/

/-- Kernel and reference end with the same words. -/
theorem bitexact : Cert.bitexact_Kernel_Reference := by
  intro m ρ m' ρ' hp hm
  have ha : ∀ d, ∀ i, (annOf (F := Bits) m d i).toNat < 8192 := fun d => words_in_range (hp d)
  refine ⟨fun c => resultOf (F := Bits) m c, ?_, ?_⟩
  · exact (θ_run (Cert.KernelIdeal.defs (F := Bits)) _ _).mono (fun r h c => ⟨(h.1 c).2.2.2, (h.1 c).1, (h.1 c).2.1, (h.1 c).2.2.1⟩)
      (run_main (F := Bits) m ρ fun d => list_in_range (ha d))
  · refine (θ_run (Cert.Reference.defs (F := Bits)) _ _).mono (fun r h c => ⟨(h c).1.trans ?_, (h c).2⟩) (Cert.Reference.Value.run (F := Bits) m' ρ')
    rw [(hm c).1, (hm c).2.2]
    exact (result_eq (ha c)).symm

/-- Kernel and reference end with the same extended reals. -/
theorem algebraic : Cert.algebraic_KernelIdeal_ReferenceIdeal := by
  intro m ρ m' ρ' hp hm
  have ha : ∀ d, ∀ i, (annOf (F := Ideal) m d i).toNat < 8192 := fun d => words_in_range (hp d)
  refine ⟨fun c => resultOf (F := Ideal) m c, ?_, ?_⟩
  · exact (θ_run (Cert.KernelIdeal.defs (F := Ideal)) _ _).mono (fun r h c => ⟨(h.1 c).2.2.2, (h.1 c).1, (h.1 c).2.1, (h.1 c).2.2.1⟩)
      (run_main (F := Ideal) m ρ fun d => list_in_range (ha d))
  · refine (θ_run (Cert.ReferenceIdeal.defs (F := Ideal)) _ _).mono (fun r h c => ⟨(h c).1.trans ?_, (h c).2⟩) (Cert.ReferenceIdeal.Value.run (F := Ideal) m' ρ')
    rw [(hm c).1, (hm c).2.2]
    exact (result_eq (ha c)).symm

theorem claim : Cert.Claim :=
  ⟨Cert.Kernel.Gen.facts, Cert.KernelIdeal.Gen.facts, Cert.ReferenceIdeal.Gen.facts, Cert.Reference.Gen.facts, Cert.Pre_in_range.Gen.facts,
    frame_kernel, frame_ideal, frame_reference_any, frame_reference_ideal, frame_reference, trivial, bitexact, algebraic⟩

end Cert.Proof

end
